-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v38) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v27) = v0 c
          ∧ r.2.mem ((c.tc : Thread Cert.InProjRefIdeal.nD Cert.InProjRefIdeal.τ).loc Cert.InProjRefIdeal.main_v28) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v20_4)) (v1 : (c : Dev Cert.MixIdeal.nD) → Buf (Elt Ideal) ((c.tc : Thread Cert.MixIdeal.nD Cert.MixIdeal.τ).loc Cert.MixIdeal.main_v20_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v20_4) = v0 c
          ∧ r.2.mem ((c.tc : Thread Cert.MixIdeal.nD Cert.MixIdeal.τ).loc Cert.MixIdeal.main_v20_5) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v44) = v0 c
          ∧ r.2.mem ((c.tc : Thread Cert.MixRefIdeal.nD Cert.MixRefIdeal.τ).loc Cert.MixRefIdeal.main_v46) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hInProj : Cert.InProj.Facts) (hInProjIdeal : Cert.InProjIdeal.Facts) (hInProjRefIdeal : Cert.InProjRefIdeal.Facts) (hMix : Cert.Mix.Facts) (hMixIdeal : Cert.MixIdeal.Facts) (hMixRefIdeal : Cert.MixRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_InProj_InProjIdeal
    ∧ algebraic_InProjIdeal_InProjRefIdeal (hInProjIdeal := hInProjIdeal) (hInProjRefIdeal := hInProjRefIdeal)
    ∧ preserves_Mix_MixIdeal
    ∧ algebraic_MixIdeal_MixRefIdeal (hMixIdeal := hMixIdeal) (hMixRefIdeal := hMixRefIdeal)
-- ==== Pre_finite.lean ====
abbrev S16384x768 : Shape := ⟨2, ![16384, 768]⟩
abbrev S8 : Shape := ⟨1, ![8]⟩
abbrev S1572864x8 : Shape := ⟨2, ![1572864, 8]⟩
abbrev S_ : Shape := ⟨0, ![]⟩
abbrev S1x8 : Shape := ⟨2, ![1, 8]⟩

class Facts : Prop where
  shapeCasts_S16384x768_S1572864x8 : S16384x768.ShapeCasts S1572864x8
  bcast_S_S1572864x8 : S_.BroadcastsInDim S1572864x8 (![] : Fin 0 → Fin S1572864x8.rank)
  bcast_S_S8 : S_.BroadcastsInDim S8 (![] : Fin 0 → Fin S8.rank)
  bcast_S8_S1x8_1 : S8.BroadcastsInDim S1x8 (![1] : Fin 1 → Fin S1x8.rank)
  bcast_S1x8_S1572864x8_0_1 : S1x8.BroadcastsInDim S1572864x8 (![0, 1] : Fin 2 → Fin S1572864x8.rank)

variable [Facts]

def fn {F : FTy → Type} [FloatOps F] (main_arg0 : FVec F S16384x768 .f32) (main_arg1 : FVec F S8 .f32) : IVec S1572864x8 1 :=
  let main_v0 : FVec F S16384x768 .f32 := Host.absf main_arg0
  let main_v1 : FVec F S1572864x8 .f32 := shapeCast S1572864x8 main_v0 shapeCasts_S16384x768_S1572864x8
  let main_cst : FVec F S_ .f32 := constant S_ .f32 0x7F800000#32
  let main_v2 : FVec F S1572864x8 .f32 := broadcastInDim S1572864x8 ![] bcast_S_S1572864x8 main_cst
  let main_v3 : IVec S1572864x8 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_v7 : IVec S1x8 1 := broadcastInDim S1x8 ![1] bcast_S8_S1x8_1 main_v6
  let main_v8 : IVec S1572864x8 1 := broadcastInDim S1572864x8 ![0, 1] bcast_S1x8_S1572864x8_0_1 main_v7
  let main_v9 : IVec S1572864x8 1 := andi main_v3 main_v8
  main_v9
-- ==== Kernel.lean ====
abbrev S16384x768 : Shape := ⟨2, ![16384, 768]⟩
abbrev S8 : Shape := ⟨1, ![8]⟩
abbrev S16384x512 : Shape := ⟨2, ![16384, 512]⟩
abbrev S1024x512 : Shape := ⟨2, ![1024, 512]⟩
abbrev S128x128 : Shape := ⟨2, ![128, 128]⟩
abbrev S1024x128 : Shape := ⟨2, ![1024, 128]⟩
abbrev S1152x128 : Shape := ⟨2, ![1152, 128]⟩
abbrev S128x256 : Shape := ⟨2, ![128, 256]⟩
abbrev S1x256 : Shape := ⟨2, ![1, 256]⟩
abbrev S1 : Shape := ⟨1, ![1]⟩
abbrev S512x128 : Shape := ⟨2, ![512, 128]⟩
abbrev S256x128 : Shape := ⟨2, ![256, 128]⟩
abbrev S512x256 : Shape := ⟨2, ![512, 256]⟩
abbrev S128x512 : Shape := ⟨2, ![128, 512]⟩
abbrev S128 : Shape := ⟨1, ![128]⟩
abbrev S128x1 : Shape := ⟨2, ![128, 1]⟩

abbrev nBuf : Space → Nat
  | .hbm => 3
  | .vmem => 12
  | .smem => 1
  | _ => 0

abbrev bufTy : (tb : Table) → Fin (tcTables nBuf tb) → BufTy
  | .hbm, ⟨0, _⟩ => ⟨S16384x768, .f32⟩
  | .hbm, ⟨1, _⟩ => ⟨S8, .f32⟩
  | .hbm, ⟨2, _⟩ => ⟨S16384x512, .bf16⟩
  | .local _ .vmem, ⟨0, _⟩ => ⟨S1024x512, .f32⟩
  | .local _ .vmem, ⟨1, _⟩ => ⟨S1024x512, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .smem, ⟨0, _⟩ => ⟨S8, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.minsi arg1 c1_i32
  let v4 : BitVec 32 := Scalar.subi v2 v3
  let c4_i32 : BitVec 32 := 4#32
  let c0_i32 : BitVec 32 := 0#32
  ![v4.toNat, c4_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.minsi arg1 c1_i32
  let v4 : BitVec 32 := Scalar.subi v2 v3
  let c5_i32 : BitVec 32 := 5#32
  let c0_i32 : BitVec 32 := 0#32
  ![v4.toNat, c5_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S16384x768 : Shape := ⟨2, ![16384, 768]⟩
abbrev S8 : Shape := ⟨1, ![8]⟩
abbrev S2x8192x768 : Shape := ⟨3, ![2, 8192, 768]⟩
abbrev S2x8192x512 : Shape := ⟨3, ![2, 8192, 512]⟩
abbrev S2x8192x128 : Shape := ⟨3, ![2, 8192, 128]⟩
abbrev S2x64x128x2x4x64 : Shape := ⟨6, ![2, 64, 128, 2, 4, 64]⟩
abbrev S2x64x128x2x64 : Shape := ⟨5, ![2, 64, 128, 2, 64]⟩
abbrev S_ : Shape := ⟨0, ![]⟩
abbrev S2x65x128x2x64 : Shape := ⟨5, ![2, 65, 128, 2, 64]⟩
abbrev S2x64x256x2x64 : Shape := ⟨5, ![2, 64, 256, 2, 64]⟩
abbrev S2x64x2x256x128x4 : Shape := ⟨6, ![2, 64, 2, 256, 128, 4]⟩
abbrev S2x64x2x4x128x256 : Shape := ⟨6, ![2, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4x1x1 : Shape := ⟨4, ![2, 4, 1, 1]⟩
abbrev S2x64x2x4x128x1 : Shape := ⟨6, ![2, 64, 2, 4, 128, 1]⟩
abbrev S2x64x2x4x128x257 : Shape := ⟨6, ![2, 64, 2, 4, 128, 257]⟩
abbrev S2x64x2x4x128 : Shape := ⟨5, ![2, 64, 2, 4, 128]⟩
abbrev S2x64x2x64x4x128 : Shape := ⟨6, ![2, 64, 2, 64, 4, 128]⟩
abbrev S16384x512 : Shape := ⟨2, ![16384, 512]⟩

abbrev nBuf : Space → Nat
  | .hbm => 85
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S8, .f32⟩
  | .hbm, ⟨2, _⟩ => ⟨S2x8192x768, .f32⟩
  | .hbm, ⟨3, _⟩ => ⟨S2x8192x512, .f32⟩
  | .hbm, ⟨4, _⟩ => ⟨S2x8192x128, .f32⟩
  | .hbm, ⟨5, _⟩ => ⟨S2x8192x128, .f32⟩
  | .hbm, ⟨6, _⟩ => ⟨S2x64x128x2x4x64, .f32⟩
  | .hbm, ⟨7, _⟩ => ⟨S2x64x128x2x64, .f32⟩
  | .hbm, ⟨8, _⟩ => ⟨S2x64x128x2x64, .f32⟩
  | .hbm, ⟨9, _⟩ => ⟨S_, .i32⟩
  | .hbm, ⟨10, _⟩ => ⟨S_, .f32⟩
  | .hbm, ⟨11, _⟩ => ⟨S2x65x128x2x64, .f32⟩
  | .hbm, ⟨12, _⟩ => ⟨S2x64x128x2x64, .f32⟩
  | .hbm, ⟨13, _⟩ => ⟨S2x64x256x2x64, .f32⟩
  | .hbm, ⟨14, _⟩ => ⟨S_, .i32⟩
  | .hbm, ⟨15, _⟩ => ⟨S_, .f32⟩
  | .hbm, ⟨16, _⟩ => ⟨S2x65x128x2x64, .f32⟩
  | .hbm, ⟨17, _⟩ => ⟨S2x64x128x2x64, .f32⟩
  | .hbm, ⟨18, _⟩ => ⟨S2x64x256x2x64, .f32⟩
  | .hbm, ⟨19, _⟩ => ⟨S2x64x2x256x128x4, .f32⟩
  | .hbm, ⟨20, _⟩ => ⟨S2x64x2x4x128x256, .f32⟩
  | .hbm, ⟨21, _⟩ => ⟨S_, .f32⟩
  | .hbm, ⟨22, _⟩ => ⟨S2x64x2x4x128x256, .f32⟩
  | .hbm, ⟨23, _⟩ => ⟨S2x64x2x4x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S1x128x256, .i1⟩
  | .hbm, ⟨42, _⟩ => ⟨S64, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i1⟩
  | .hbm, ⟨47, _⟩ => ⟨S1x1x256, .i32⟩
  | .hbm, ⟨48, _⟩ => ⟨S_, .i32⟩
  | .hbm, ⟨49, _⟩ => ⟨S1x1x256, .i32⟩
  | .hbm, ⟨50, _⟩ => ⟨S1x1x256, .i1⟩
  | .hbm, ⟨51, _⟩ => ⟨S64x1x256, .i1⟩
  | .hbm, ⟨52, _⟩ => ⟨S64x1x256, .i1⟩
  | .hbm, ⟨53, _⟩ => ⟨S64x1x256, .i1⟩
  | .hbm, ⟨54, _⟩ => ⟨S64x128x256, .i1⟩
  | .hbm, ⟨55, _⟩ => ⟨S64x128x256, .i1⟩
  | .hbm, ⟨56, _⟩ => ⟨S64x128x256, .i1⟩
  | .hbm, ⟨57, _⟩ => ⟨S1x64x1x1x128x256, .i1⟩
  | .hbm, ⟨58, _⟩ => ⟨S_, .f32⟩
  | .hbm, ⟨59, _⟩ => ⟨S_, .f32⟩
  | .hbm, ⟨60, _⟩ => ⟨S2x64x2x4x128x256, .i1⟩
  | .hbm, ⟨61, _⟩ => ⟨S2x64x2x4x128x256, .f32⟩
  | .hbm, ⟨62, _⟩ => ⟨S2x64x2x4x128x256, .f32⟩
  | .hbm, ⟨63, _⟩ => ⟨S2x4x1x1, .f32⟩
  | .hbm, ⟨64, _⟩ => ⟨S2x64x2x4x128x1, .f32⟩
  | .hbm, ⟨65, _⟩ => ⟨S2x64x2x4x128x257, .f32⟩
  | .hbm, ⟨66, _⟩ => ⟨S_, .f32⟩
  | .hbm, ⟨67, _⟩ => ⟨S2x64x2x4x128, .f32⟩
  | .hbm, ⟨68, _⟩ => ⟨S_, .f32⟩
  | .hbm, ⟨69, _⟩ => ⟨S2x64x2x4x128, .f32⟩
  | .hbm, ⟨70, _⟩ => ⟨S2x64x2x4x128, .f32⟩
  | .hbm, ⟨71, _⟩ => ⟨S2x64x2x4x128x1, .f32⟩
  | .hbm, ⟨72, _⟩ => ⟨S2x64x2x4x128x257, .f32⟩
  | .hbm, ⟨73, _⟩ => ⟨S2x64x2x4x128x257, .f32⟩
  | .hbm, ⟨74, _⟩ => ⟨S2x64x2x4x128x257, .f32⟩
  | .hbm, ⟨75, _⟩ => ⟨S_, .f32⟩
  | .hbm, ⟨76, _⟩ => ⟨S2x64x2x4x128, .f32⟩
  | .hbm, ⟨77, _⟩ => ⟨S2x64x2x4x128x1, .f32⟩
  | .hbm, ⟨78, _⟩ => ⟨S2x64x2x4x128x257, .f32⟩
  | .hbm, ⟨79, _⟩ => ⟨S2x64x2x4x128x257, .f32⟩
  | .hbm, ⟨80, _⟩ => ⟨S2x64x2x4x128x256, .f32⟩
  | .hbm, ⟨81, _⟩ => ⟨S2x64x2x64x4x128, .f32⟩
  | .hbm, ⟨82, _⟩ => ⟨S2x64x128x2x4x64, .f32⟩
  | .hbm, ⟨83, _⟩ => ⟨S16384x512, .f32⟩
  | .hbm, ⟨84, _⟩ => ⟨S16384x512, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .f32⟩
  | .local _ .vmem, ⟨4, _⟩ => ⟨S1024x2816, .f32⟩
  | .local _ .vmem, ⟨5, _⟩ => ⟨S2816x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Out.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .f32⟩
  | .local _ .vmem, ⟨7, _⟩ => ⟨S1x1024, .f32⟩
  | .local _ .vmem, ⟨8, _⟩ => ⟨S1024x2816, .f32⟩
  | .local _ .vmem, ⟨9, _⟩ => ⟨S1024x2816, .f32⟩
  | .local _ .vmem, ⟨10, _⟩ => ⟨S2816x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x2560 : Shape := ⟨2, ![1024, 2560]⟩
abbrev S768 : Shape := ⟨1, ![768]⟩
abbrev S1792 : Shape := ⟨1, ![1792]⟩
abbrev S1x768 : Shape := ⟨2, ![1, 768]⟩
abbrev S1x1024 : Shape := ⟨2, ![1, 1024]⟩
abbrev S1x1792 : Shape := ⟨2, ![1, 1792]⟩
abbrev S16384x1792 : Shape := ⟨2, ![16384, 1792]⟩
abbrev S16384x768 : Shape := ⟨2, ![16384, 768]⟩
abbrev S1024x1024 : Shape := ⟨2, ![1024, 1024]⟩
abbrev S1024x1792 : Shape := ⟨2, ![1024, 1792]⟩
abbrev S1024x768 : Shape := ⟨2, ![1024, 768]⟩
abbrev S8x1792 : Shape := ⟨2, ![8, 1792]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S768, .f32⟩
  | .hbm, ⟨4, _⟩ => ⟨S1792, .f32⟩
  | .hbm, ⟨5, _⟩ => ⟨S1x768, .f32⟩
  | .hbm, ⟨6, _⟩ => ⟨S1x1024, .f32⟩
  | .hbm, ⟨7, _⟩ => ⟨S1024x2560, .bf16⟩
  | .hbm, ⟨8, _⟩ => ⟨S1x1792, .f32⟩
  | .hbm, ⟨9, _⟩ => ⟨S16384x1792, .f32⟩
  | .hbm, ⟨10, _⟩ => ⟨S16384x768, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1x768, .f32⟩
  | .local _ .vmem, ⟨5, _⟩ => ⟨S1x1792, .f32⟩
  | .local _ .vmem, ⟨6, _⟩ => ⟨S1024x1792, .f32⟩
  | .local _ .vmem, ⟨7, _⟩ => ⟨S1024x1792, .f32⟩
  | .local _ .vmem, ⟨8, _⟩ => ⟨S1024x768, .f32⟩
  | .local _ .vmem, ⟨9, _⟩ => ⟨S1024x768, .f32⟩
  | .local _ .vmem, ⟨10, _⟩ => ⟨S8x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S16384x1024 : Shape := ⟨2, ![16384, 1024]⟩
abbrev S1024 : Shape := ⟨1, ![1024]⟩
abbrev S1024x2560 : Shape := ⟨2, ![1024, 2560]⟩
abbrev S768 : Shape := ⟨1, ![768]⟩
abbrev S1792 : Shape := ⟨1, ![1792]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2560 : Shape := ⟨2, ![16384, 2560]⟩
abbrev S2x8192x2560 : Shape := ⟨3, ![2, 8192, 2560]⟩
abbrev S2x8192x768 : Shape := ⟨3, ![2, 8192, 768]⟩
abbrev S1x1x768 : Shape := ⟨3, ![1, 1, 768]⟩
abbrev S2x8192x1792 : Shape := ⟨3, ![2, 8192, 1792]⟩
abbrev S2x8193x1792 : Shape := ⟨3, ![2, 8193, 1792]⟩
abbrev S1x1x1792 : Shape := ⟨3, ![1, 1, 1792]⟩
abbrev S16384x1792 : Shape := ⟨2, ![16384, 1792]⟩
abbrev S16384x768 : Shape := ⟨2, ![16384, 768]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S768, .f32⟩
  | .hbm, ⟨4, _⟩ => ⟨S1792, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2560, .f32⟩
  | .hbm, ⟨22, _⟩ => ⟨S2x8192x2560, .f32⟩
  | .hbm, ⟨23, _⟩ => ⟨S2x8192x768, .f32⟩
  | .hbm, ⟨24, _⟩ => ⟨S1x1x768, .f32⟩
  | .hbm, ⟨25, _⟩ => ⟨S2x8192x768, .f32⟩
  | .hbm, ⟨26, _⟩ => ⟨S2x8192x768, .f32⟩
  | .hbm, ⟨27, _⟩ => ⟨S2x8192x1792, .f32⟩
  | .hbm, ⟨28, _⟩ => ⟨S_, .i32⟩
  | .hbm, ⟨29, _⟩ => ⟨S_, .f32⟩
  | .hbm, ⟨30, _⟩ => ⟨S2x8193x1792, .f32⟩
  | .hbm, ⟨31, _⟩ => ⟨S2x8192x1792, .f32⟩
  | .hbm, ⟨32, _⟩ => ⟨S2x8192x1792, .f32⟩
  | .hbm, ⟨33, _⟩ => ⟨S1x1x1792, .f32⟩
  | .hbm, ⟨34, _⟩ => ⟨S2x8192x1792, .f32⟩
  | .hbm, ⟨35, _⟩ => ⟨S2x8192x1792, .f32⟩
  | .hbm, ⟨36, _⟩ => ⟨S2x8192x1792, .f32⟩
  | .hbm, ⟨37, _⟩ => ⟨S16384x1792, .f32⟩
  | .hbm, ⟨38, _⟩ => ⟨S16384x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Mix.lean ====
abbrev S16384x1792 : Shape := ⟨2, ![16384, 1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x512 : Shape := ⟨2, ![1, 512]⟩
abbrev S16384x512 : Shape := ⟨2, ![16384, 512]⟩
abbrev S512x1792 : Shape := ⟨2, ![512, 1792]⟩
abbrev S512x512 : Shape := ⟨2, ![512, 512]⟩
abbrev S8x512 : Shape := ⟨2, ![8, 512]⟩
abbrev S512x128 : Shape := ⟨2, ![512, 128]⟩
abbrev S2048x128 : Shape := ⟨2, ![2048, 128]⟩
abbrev S128x256 : Shape := ⟨2, ![128, 256]⟩
abbrev S64x128 : Shape := ⟨2, ![64, 128]⟩
abbrev S256x128 : Shape := ⟨2, ![256, 128]⟩
abbrev S64x256 : Shape := ⟨2, ![64, 256]⟩

abbrev nBuf : Space → Nat
  | .hbm => 54
  | .vmem => 32
  | .smem => 0
  | _ => 0

abbrev bufTy : (tb : Table) → Fin (tcTables nBuf tb) → BufTy
  | .hbm, ⟨0, _⟩ => ⟨S16384x1792, .f32⟩
  | .hbm, ⟨1, _⟩ => ⟨S512, .f32⟩
  | .hbm, ⟨2, _⟩ => ⟨S64x512, .f32⟩
  | .hbm, ⟨3, _⟩ => ⟨S512, .f32⟩
  | .hbm, ⟨4, _⟩ => ⟨S64x512, .f32⟩
  | .hbm, ⟨5, _⟩ => ⟨S128x512, .f32⟩
  | .hbm, ⟨6, _⟩ => ⟨S512, .f32⟩
  | .hbm, ⟨7, _⟩ => ⟨S512, .f32⟩
  | .hbm, ⟨8, _⟩ => ⟨S8x64, .f32⟩
  | .hbm, ⟨9, _⟩ => ⟨S128, .i32⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i1⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S1x128, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S128x128, .bf16⟩
  | .hbm, ⟨34, _⟩ => ⟨S_, .f32⟩
  | .hbm, ⟨35, _⟩ => ⟨S64x512, .f32⟩
  | .hbm, ⟨36, _⟩ => ⟨S128x512, .f32⟩
  | .hbm, ⟨37, _⟩ => ⟨S128x512, .bf16⟩
  | .hbm, ⟨38, _⟩ => ⟨S_, .f32⟩
  | .hbm, ⟨39, _⟩ => ⟨S64x512, .f32⟩
  | .hbm, ⟨40, _⟩ => ⟨S128x512, .f32⟩
  | .hbm, ⟨41, _⟩ => ⟨S128x512, .bf16⟩
  | .hbm, ⟨42, _⟩ => ⟨S1x512, .f32⟩
  | .hbm, ⟨43, _⟩ => ⟨S1x512, .f32⟩
  | .hbm, ⟨44, _⟩ => ⟨S128x512, .bf16⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S16384x512, .bf16⟩
  | .hbm, ⟨49, _⟩ => ⟨S16384x512, .bf16⟩
  | .hbm, ⟨50, _⟩ => ⟨S16384x512, .bf16⟩
  | .hbm, ⟨51, _⟩ => ⟨S16384x512, .bf16⟩
  | .hbm, ⟨52, _⟩ => ⟨S16384x512, .bf16⟩
  | .hbm, ⟨53, _⟩ => ⟨S16384x512, .bf16⟩
  | .local _ .vmem, ⟨0, _⟩ => ⟨S512x1792, .f32⟩
  | .local _ .vmem, ⟨1, _⟩ => ⟨S512x1792, .f32⟩
  | .local _ .vmem, ⟨2, _⟩ => ⟨S1x512, .f32⟩
  | .local _ .vmem, ⟨3, _⟩ => ⟨S128x512, .bf16⟩
  | .local _ .vmem, ⟨4, _⟩ => ⟨S1x512, .f32⟩
  | .local _ .vmem, ⟨5, _⟩ => ⟨S128x512, .bf16⟩
  | .local _ .vmem, ⟨6, _⟩ => ⟨S128x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x128, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S8x512, .f32⟩
  | _, _ => ⟨S16384x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v20_2 : Ref sig .tc := ⟨.hbm, 50, rfl⟩
abbrev main_v20_3 : Ref sig .tc := ⟨.hbm, 51, rfl⟩
abbrev main_v20_4 : Ref sig .tc := ⟨.hbm, 52, rfl⟩
abbrev main_v20_5 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S16384x1792 : Shape := ⟨2, ![16384, 1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S2x8192x1792 : Shape := ⟨3, ![2, 8192, 1792]⟩
abbrev S2x8192x512 : Shape := ⟨3, ![2, 8192, 512]⟩
abbrev S2x8192x64 : Shape := ⟨3, ![2, 8192, 64]⟩
abbrev S2x8192x128 : Shape := ⟨3, ![2, 8192, 128]⟩
abbrev S1x1x512 : Shape := ⟨3, ![1, 1, 512]⟩
abbrev S_ : Shape := ⟨0, ![]⟩
abbrev S2x8192x8x64 : Shape := ⟨4, ![2, 8192, 8, 64]⟩
abbrev S1x1x8x64 : Shape := ⟨4, ![1, 1, 8, 64]⟩
abbrev S2x8192x8 : Shape := ⟨3, ![2, 8192, 8]⟩
abbrev S2x8192x8x1 : Shape := ⟨4, ![2, 8192, 8, 1]⟩
abbrev S16384x512 : Shape := ⟨2, ![16384, 512]⟩

abbrev nBuf : Space → Nat
  | .hbm => 63
  | .vmem => 0
  | .smem => 0
  | _ => 0

abbrev bufTy : (tb : Table) → Fin (tcTables nBuf tb) → BufTy
  | .hbm, ⟨0, _⟩ => ⟨S16384x1792, .f32⟩
  | .hbm, ⟨1, _⟩ => ⟨S512, .f32⟩
  | .hbm, ⟨2, _⟩ => ⟨S64x512, .f32⟩
  | .hbm, ⟨3, _⟩ => ⟨S512, .f32⟩
  | .hbm, ⟨4, _⟩ => ⟨S64x512, .f32⟩
  | .hbm, ⟨5, _⟩ => ⟨S128x512, .f32⟩
  | .hbm, ⟨6, _⟩ => ⟨S512, .f32⟩
  | .hbm, ⟨7, _⟩ => ⟨S512, .f32⟩
  | .hbm, ⟨8, _⟩ => ⟨S8x64, .f32⟩
  | .hbm, ⟨9, _⟩ => ⟨S2x8192x1792, .f32⟩
  | .hbm, ⟨10, _⟩ => ⟨S2x8192x512, .f32⟩
  | .hbm, ⟨11, _⟩ => ⟨S2x8192x512, .f32⟩
  | .hbm, ⟨12, _⟩ => ⟨S2x8192x512, .f32⟩
  | .hbm, ⟨13, _⟩ => ⟨S2x8192x64, .f32⟩
  | .hbm, ⟨14, _⟩ => ⟨S2x8192x64, .f32⟩
  | .hbm, ⟨15, _⟩ => ⟨S2x8192x128, .f32⟩
  | .hbm, ⟨16, _⟩ => ⟨S2x8192x512, .f32⟩
  | .hbm, ⟨17, _⟩ => ⟨S1x1x512, .f32⟩
  | .hbm, ⟨18, _⟩ => ⟨S2x8192x512, .f32⟩
  | .hbm, ⟨19, _⟩ => ⟨S2x8192x512, .f32⟩
  | .hbm, ⟨20, _⟩ => ⟨S2x8192x512, .f32⟩
  | .hbm, ⟨21, _⟩ => ⟨S2x8192x512, .f32⟩
  | .hbm, ⟨22, _⟩ => ⟨S_, .f32⟩
  | .hbm, ⟨23, _⟩ => ⟨S2x8192x512, .f32⟩
  | .hbm, ⟨24, _⟩ => ⟨S2x8192x512, .f32⟩
  | .hbm, ⟨25, _⟩ => ⟨S_, .f32⟩
  | .hbm, ⟨26, _⟩ => ⟨S2x8192x512, .f32⟩
  | .hbm, ⟨27, _⟩ => ⟨S2x8192x512, .f32⟩
  | .hbm, ⟨28, _⟩ => ⟨S2x8192x128, .f32⟩
  | .hbm, ⟨29, _⟩ => ⟨S2x8192x128, .f32⟩
  | .hbm, ⟨30, _⟩ => ⟨S_, .f32⟩
  | .hbm, ⟨31, _⟩ => ⟨S2x8192x128, .f32⟩
  | .hbm, ⟨32, _⟩ => ⟨S2x8192x128, .f32⟩
  | .hbm, ⟨33, _⟩ => ⟨S_, .f32⟩
  | .hbm, ⟨34, _⟩ => ⟨S2x8192x128, .f32⟩
  | .hbm, ⟨35, _⟩ => ⟨S2x8192x128, .f32⟩
  | .hbm, ⟨36, _⟩ => ⟨S2x8192x512, .f32⟩
  | .hbm, ⟨37, _⟩ => ⟨S_, .f32⟩
  | .hbm, ⟨38, _⟩ => ⟨S2x8192x512, .f32⟩
  | .hbm, ⟨39, _⟩ => ⟨S2x8192x512, .f32⟩
  | .hbm, ⟨40, _⟩ => ⟨S1x1x512, .f32⟩
  | .hbm, ⟨41, _⟩ => ⟨S2x8192x512, .f32⟩
  | .hbm, ⟨42, _⟩ => ⟨S2x8192x512, .f32⟩
  | .hbm, ⟨43, _⟩ => ⟨S_, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x8x64, .f32⟩
  | .hbm, ⟨48, _⟩ => ⟨S2x8192x8x64, .f32⟩
  | .hbm, ⟨49, _⟩ => ⟨S2x8192x8x64, .f32⟩
  | .hbm, ⟨50, _⟩ => ⟨S2x8192x8x64, .f32⟩
  | .hbm, ⟨51, _⟩ => ⟨S1x1x8x64, .f32⟩
  | .hbm, ⟨52, _⟩ => ⟨S2x8192x8x64, .f32⟩
  | .hbm, ⟨53, _⟩ => ⟨S2x8192x8x64, .f32⟩
  | .hbm, ⟨54, _⟩ => ⟨S_, .f32⟩
  | .hbm, ⟨55, _⟩ => ⟨S2x8192x8, .f32⟩
  | .hbm, ⟨56, _⟩ => ⟨S2x8192x8x1, .f32⟩
  | .hbm, ⟨57, _⟩ => ⟨S2x8192x8x64, .f32⟩
  | .hbm, ⟨58, _⟩ => ⟨S2x8192x8x64, .f32⟩
  | .hbm, ⟨59, _⟩ => ⟨S16384x512, .f32⟩
  | .hbm, ⟨60, _⟩ => ⟨S16384x512, .bf16⟩
  | .hbm, ⟨61, _⟩ => ⟨S16384x512, .f32⟩
  | .hbm, ⟨62, _⟩ => ⟨S16384x512, .bf16⟩
  | _, _ => ⟨S16384x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.AttnUnit.lean ====
/- One unit of the attention kernel: 128 queries of one pair of heads against a window of 256 keys, as the kernel's own
   operations compute it from the block's loads, and each of the block's 32 stored tiles as such a unit. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- The two zero-padded copies of a window of 256 rows, one above the other. -/
def stack (o : ℕ) (h : S1152x128.Slices ![o, 0] S256x128) (lo hi : FVec Ideal S1152x128 .bf16) : FVec Ideal S512x128 .bf16 :=
  concatenate S512x128 0 [⟨S256x128, extractStridedSlice S256x128 ![o, 0] lo h⟩, ⟨S256x128, extractStridedSlice S256x128 ![o, 0] hi h⟩] concatenates_S256x128_S256x128_S512x128_d0

/-- The stacked values, key 0 of each copy cleared, beside the columns that sum the weights. -/
def stackV (o : ℕ) (h : S1152x128.Slices ![o, 0] S256x128) (lo hi : FVec Ideal S1152x128 .bf16) : FVec Ideal S512x256 .bf16 :=
  concatenate S512x256 1 [⟨S512x128, select (cmpi .eq k0_pay26 (broadcast S512x128 0#32))
    (broadcast S512x128 (Scalar.truncf .bf16 bitsLt_bf16_f32 (Scalar.ofBits .f32 0x00000000#32))) (stack o h lo hi)⟩, ⟨S512x128, k0_pay27⟩] concatenates_S512x128_S512x128_S512x256_d1

/-- The scaled products of the queries with the stacked keys. -/
def scores (q : Vec Ideal S128x128 .f32) (kc : FVec Ideal S512x128 .bf16) : FVec Ideal S128x512 .f32 :=
  matmul dot_S128x128_S512x128_S128x512_1_1_0_0_n_n none
    (truncf .bf16 (mulf q (broadcast S128x128 (Named.named κ "qscale" 0x3E38AA3B#32))) bitsLt_bf16_f32) kc (constant S128x512 .f32 0x00000000#32)

/-- One head's scores, masked: outside the band the fill row. -/
def masked (off : ℕ) (h : S128x512.Slices ![0, off] S128x256) (msk : IVec S128x256 1) (f : FVec Ideal S1x256 .f32) (s : FVec Ideal S128x512 .f32) :
    FVec Ideal S128x256 .f32 :=
  select msk (extractStridedSlice S128x256 ![0, off] s h) (broadcastTo S128x256 (shapeCast S1x256 f shapeCasts_S1x256_S1x256) broadcasts_S1x256_S128x256)

/-- One head's weights: two to the scores less their row's greatest. -/
def weights (x : FVec Ideal S128x256 .f32) : FVec Ideal S128x256 .bf16 :=
  truncf .bf16 (exp2 (subf x (broadcastTo S128x256 (shapeCast S128x1
    (multiReduction .maximumf [1] S128 x 0xFF800000#32 reduces_S128x256_S128 (.inl rfl) rfl) shapeCasts_S128_S128x1) broadcasts_S128x1_S128x256))) bitsLt_bf16_f32

/-- The fill row of one head: its sink, scaled, at key 0, and −∞ elsewhere. -/
def fill (s : Elt Ideal .f32) : FVec Ideal S1x256 .f32 :=
  select k0_pay17 (broadcast S1x256 (Scalar.mulf s (Named.named κ "log2e" 0x3FB8AA3B#32))) (broadcast S1x256 (Scalar.ofBits .f32 0xFF800000#32))

/-- The weighted values beside the sums of the weights. -/
def mix (x0 x1 : FVec Ideal S128x256 .f32) (vc : FVec Ideal S512x256 .bf16) : FVec Ideal S128x256 .f32 :=
  matmul dot_S128x512_S512x256_S128x256_1_0_0_1_n_n none
    (concatenate S128x512 1 [⟨S128x256, weights x0⟩, ⟨S128x256, weights x1⟩] concatenates_S128x256_S128x256_S128x512_d1) vc (constant S128x256 .f32 0x00000000#32)

/-- The unit: a pair of heads' 128 output rows. -/
def unit (o : ℕ) (h : S1152x128.Slices ![o, 0] S256x128) (msk : IVec S128x256 1) (s0 s1 : Elt Ideal .f32) (q : Vec Ideal S128x128 .f32)
    (klo khi vlo vhi : FVec Ideal S1152x128 .bf16) : FVec Ideal S128x128 .bf16 :=
  truncf .bf16 (divf
    (extractStridedSlice S128x128 ![0, 0] (mix (masked 0 slices_S128x512_o0_0_S128x256 msk (fill s0) (scores q (stack o h klo khi)))
      (masked 256 slices_S128x512_o0_256_S128x256 msk (fill s1) (scores q (stack o h klo khi))) (stackV o h vlo vhi)) slices_S128x256_o0_0_S128x128)
    (extractStridedSlice S128x128 ![0, 128] (mix (masked 0 slices_S128x512_o0_0_S128x256 msk (fill s0) (scores q (stack o h klo khi)))
      (masked 256 slices_S128x512_o0_256_S128x256 msk (fill s1) (scores q (stack o h klo khi))) (stackV o h vlo vhi)) slices_S128x256_o0_128_S128x128))
    bitsLt_bf16_f32

/-! ## The operations at an index -/

theorem ofBits_negInf : Ideal.ofBits FTy.f32 0xFF800000#32 = (⊥ : EReal) := by rw [Ideal.ofBits]; decide +kernel

/-- The lane mask: lanes below 64. -/
theorem lane_lt (l : Fin 128) :
    IntOp.cmpi .eq (IntOp.shrsi .vector (IntOp.andi (BitVec.ofNat 32 l.val) 127#32) 6#32) 0#32 = if l.val < 64 then 1#1 else 0#1 := by
  revert l; decide +kernel

/-- A stacked row's key number is its number modulo 256. -/
theorem key0 (j : Fin 512) : IntOp.cmpi .eq (IntOp.andi (BitVec.ofNat 32 j.val) 255#32) 0#32 = if j.val % 256 = 0 then 1#1 else 0#1 := by
  revert j; decide +kernel

theorem copy0 (j : Fin 512) : IntOp.cmpi .slt (BitVec.ofNat 32 j.val) 256#32 = if j.val < 256 then 1#1 else 0#1 := by
  revert j; decide +kernel

theorem col0 (j : Fin 256) : IntOp.cmpi .eq (BitVec.ofNat 32 j.val) 0#32 = if j = 0 then 1#1 else 0#1 := by
  revert j; decide +kernel

/-- The stack of the two copies: a copy's own half of the lanes, and zero in the other half. -/
theorem stack_apply (o : ℕ) (ho : o ≤ 896) (h : S1152x128.Slices ![o, 0] S256x128) (lo hi : FVec Ideal S1152x128 .bf16) (K : Fin 1152 → Fin 64 → EReal)
    (hlo : ∀ r (l : Fin 128), lo (ix2 r l) = if l.val < 64 then K r ⟨l.val % 64, Nat.mod_lt _ (by omega)⟩ else 0)
    (hhi : ∀ r (l : Fin 128), hi (ix2 r l) = if l.val < 64 then 0 else K r ⟨l.val % 64, Nat.mod_lt _ (by omega)⟩)
    (j : Fin 512) (l : Fin 128) :
    stack o h lo hi (ix2 j l) = if j.val / 256 = l.val / 64 then K ⟨o + j.val % 256, by omega⟩ ⟨l.val % 64, Nat.mod_lt _ (by omega)⟩ else 0 := by
  pointwise [stack]
  rcases lt_or_ge j.val 256 with hj | hj
  · rw [dif_pos hj, hlo]
    have e : (⟨o + j.val, by omega⟩ : Fin 1152) = ⟨o + j.val % 256, by omega⟩ := Fin.ext (by simp only; omega)
    rw [e]; by_cases hl : l.val < 64
    · rw [if_pos hl, if_pos (by omega)]
    · rw [if_neg hl, if_neg (by omega)]
  · rw [dif_neg (by omega), hhi]
    have e : (⟨o + (j.val - 256), by omega⟩ : Fin 1152) = ⟨o + j.val % 256, by omega⟩ := Fin.ext (by simp only; omega)
    rw [e]; by_cases hl : l.val < 64
    · rw [if_pos hl, if_neg (by omega)]
    · rw [if_neg hl, if_pos (by omega)]

/-- The left half of the stacked values: key 0 cleared. -/
theorem stackV_left (o : ℕ) (h : S1152x128.Slices ![o, 0] S256x128) (lo hi : FVec Ideal S1152x128 .bf16) (j : Fin 512) (l : Fin 128) :
    stackV o h lo hi (ix2 j ⟨l.val, by omega⟩) = if j.val % 256 = 0 then 0 else stack o h lo hi (ix2 j l) := by
  pointwise [stackV, k0_pay26, k0_pay27]
  rw [key0]
  by_cases hj : j.val % 256 = 0 <;> simp [hj, Scalar.select]

/-- The right half: ones in the lanes of the copy. -/
theorem stackV_right (o : ℕ) (h : S1152x128.Slices ![o, 0] S256x128) (lo hi : FVec Ideal S1152x128 .bf16) (j : Fin 512) (l : Fin 128) :
    stackV o h lo hi (ix2 j ⟨128 + l.val, by omega⟩) = if j.val / 256 = l.val / 64 then 1 else 0 := by
  pointwise [stackV, k0_pay26, k0_pay27]
  rw [copy0, lane_lt]
  by_cases hj : j.val < 256 <;> by_cases hl : l.val < 64
  · rw [if_pos hj, if_pos hl, if_pos (by omega)]; rfl
  · rw [if_pos hj, if_neg hl, if_neg (by omega)]; rfl
  · rw [if_neg hj, if_pos hl, if_neg (by omega)]; rfl
  · rw [if_neg hj, if_neg hl, if_pos (by omega)]; rfl

/-- The scale of the scores, an eighth of the binary logarithm of e; and that logarithm. -/
def qs : EReal := (((1 / 8) * (Real.log 2)⁻¹ : ℝ) : EReal)
def ln : EReal := (((Real.log 2)⁻¹ : ℝ) : EReal)

theorem named_qs : (Named.named κ "qscale" 0x3E38AA3B#32 : Ideal .f32) = qs := rfl
theorem named_ln : (Named.named κ "log2e" 0x3FB8AA3B#32 : Ideal .f32) = ln := rfl

/-- A sum over two halves of which one is cleared. -/
theorem sum_pick (n : ℕ) (hh : Fin 2) (f : Fin 2 → Fin n → EReal) :
    ∑ i : Fin n, (if 0 = hh.val then f 0 i else 0) + ∑ i : Fin n, (if 1 = hh.val then f 1 i else 0) = ∑ i : Fin n, f hh i := by
  fin_cases hh <;> simp

/-- A head's score: the product over its own 64 lanes. -/
theorem scores_apply (o : ℕ) (ho : o ≤ 896) (h : S1152x128.Slices ![o, 0] S256x128) (lo hi : FVec Ideal S1152x128 .bf16) (K : Fin 1152 → Fin 64 → EReal)
    (hlo : ∀ r (l : Fin 128), lo (ix2 r l) = if l.val < 64 then K r ⟨l.val % 64, Nat.mod_lt _ (by omega)⟩ else 0)
    (hhi : ∀ r (l : Fin 128), hi (ix2 r l) = if l.val < 64 then 0 else K r ⟨l.val % 64, Nat.mod_lt _ (by omega)⟩)
    (q : Vec Ideal S128x128 .f32) (r : Fin 128) (j : Fin 256) (hh : Fin 2) (J : Fin 512) (hJ : J.val = 256 * hh.val + j.val) :
    scores q (stack o h lo hi) (ix2 r J)
      = ∑ d : Fin 64, q (ix2 r ⟨64 * hh.val + d.val, by omega⟩) * qs * K ⟨o + j.val, by omega⟩ d := by
  pointwise [scores]
  rw [Fin.sum_univ_two_halves 64 64 rfl]
  simp only [stack_apply o ho h lo hi K hlo hhi, named_qs]
  rw [← sum_pick 64 hh fun hh d => q (ix2 r ⟨64 * hh.val + d.val, by omega⟩) * qs * K ⟨o + j.val, by omega⟩ d]
  have e : (⟨o + J.val % 256, by omega⟩ : Fin 1152) = ⟨o + j.val, by omega⟩ := Fin.ext (by simp only; omega)
  have eJ : J.val / 256 = hh.val := by omega
  congr 1 <;> refine Finset.sum_congr rfl fun d _ => ?_
  · have ed : (⟨d.val % 64, Nat.mod_lt _ (by omega)⟩ : Fin 64) = d := Fin.ext (by simp only; omega)
    have eq : (⟨64 * (0 : Fin 2).val + d.val, by simp; omega⟩ : Fin 128) = ⟨d.val, by omega⟩ := Fin.ext (by simp)
    simp only [e, eJ, ed, eq, Nat.div_eq_of_lt d.isLt, eq_comm (a := hh.val), mul_ite, mul_zero]
  · have ed : (⟨(64 + d.val) % 64, Nat.mod_lt _ (by omega)⟩ : Fin 64) = d := Fin.ext (by simp only; omega)
    have eq : (⟨64 * (1 : Fin 2).val + d.val, by simp; omega⟩ : Fin 128) = ⟨64 + d.val, by omega⟩ := Fin.ext (by simp)
    have e1 : (64 + d.val) / 64 = 1 := by omega
    simp only [e, eJ, ed, eq, e1, eq_comm (a := hh.val), mul_ite, mul_zero]

/-- One head's scores with the fill row outside the band. -/
theorem masked_apply (off : ℕ) (h : S128x512.Slices ![0, off] S128x256) (msk : IVec S128x256 1) (f : FVec Ideal S1x256 .f32) (s : FVec Ideal S128x512 .f32) (j : Fin 128) (l : Fin 256) (ho : off ≤ 256) :
    masked off h msk f s (ix2 j l) = Scalar.select (msk (ix2 j l)) (s (ix2 j ⟨off + l, by omega⟩)) (f (ix2 0 l)) := by
  pointwise [masked]

theorem weights_apply (s : FVec Ideal S128x256 .f32) (j : Fin 128) (l : Fin 256) :
    weights s (ix2 j l) = Ideal.exp2 (s (ix2 j l) - Finset.univ.fold max ⊥ fun x => s (ix2 j x)) := by
  pointwise [weights]
  rw [ofBits_negInf]; rfl

theorem fill_apply (s : EReal) (j : Fin 1) (l : Fin 256) : fill s (ix2 j l) = if l = 0 then s * ln else ⊥ := by
  pointwise [fill, k0_pay17]
  rw [col0, ofBits_negInf, named_ln]
  by_cases h : l = 0 <;> simp [h, Scalar.select]

theorem mix_apply (a b : FVec Ideal S128x256 .f32) (vc : FVec Ideal S512x256 .bf16) (j : Fin 128) (l : Fin 256) :
    mix a b vc (ix2 j l) = ∑ x : Fin 256, weights a (ix2 j x) * vc (ix2 ⟨x.val, by omega⟩ l) + ∑ x : Fin 256, weights b (ix2 j x) * vc (ix2 ⟨256 + x.val, by omega⟩ l) := by
  pointwise [mix]

/-- The weighted values of the head whose rows of the column are not cleared. -/
theorem mix_pick (a b : FVec Ideal S128x256 .f32) (vc : FVec Ideal S512x256 .bf16) (r : Fin 128) (l : Fin 256) (hh : Fin 2) (w : Fin 256 → EReal)
    (hw : ∀ x : Fin 512, vc (ix2 x l) = if x.val / 256 = hh.val then w ⟨x.val % 256, Nat.mod_lt _ (by omega)⟩ else 0) :
    mix a b vc (ix2 r l) = ∑ x : Fin 256, weights (if hh.val = 0 then a else b) (ix2 r x) * w x := by
  rw [mix_apply, ← sum_pick 256 hh fun hh x => weights (if hh.val = 0 then a else b) (ix2 r x) * w x]
  congr 1 <;> refine Finset.sum_congr rfl fun x _ => ?_
  · have ex : (⟨x.val % 256, Nat.mod_lt _ (by omega)⟩ : Fin 256) = x := Fin.ext (by simp only; omega)
    rw [hw]; simp only [ex, Nat.div_eq_of_lt x.isLt, mul_ite, mul_zero]; rfl
  · have ex : (⟨(256 + x.val) % 256, Nat.mod_lt _ (by omega)⟩ : Fin 256) = x := Fin.ext (by simp only; omega)
    have e1 : (256 + x.val) / 256 = 1 := by omega
    rw [hw]; simp only [ex, e1, mul_ite, mul_zero]; rfl

/-- The values weighted by two to their scores, over the sum of the weights; key 0, the sink's slot, carries no value. -/
def quot (y v : Fin 256 → EReal) : EReal :=
  Ideal.div (∑ j, Ideal.exp2 (y j - Finset.univ.fold max ⊥ y) * (if j = 0 then 0 else v j)) (∑ j, Ideal.exp2 (y j - Finset.univ.fold max ⊥ y))

/-- The unit at a row and a lane. -/
theorem unit_apply (o : ℕ) (ho : o ≤ 896) (h : S1152x128.Slices ![o, 0] S256x128) (msk : IVec S128x256 1) (s : Fin 2 → EReal) (q : Vec Ideal S128x128 .f32)
    (klo khi vlo vhi : FVec Ideal S1152x128 .bf16) (K V : Fin 1152 → Fin 64 → EReal)
    (hklo : ∀ r (l : Fin 128), klo (ix2 r l) = if l.val < 64 then K r ⟨l.val % 64, Nat.mod_lt _ (by omega)⟩ else 0)
    (hkhi : ∀ r (l : Fin 128), khi (ix2 r l) = if l.val < 64 then 0 else K r ⟨l.val % 64, Nat.mod_lt _ (by omega)⟩)
    (hvlo : ∀ r (l : Fin 128), vlo (ix2 r l) = if l.val < 64 then V r ⟨l.val % 64, Nat.mod_lt _ (by omega)⟩ else 0)
    (hvhi : ∀ r (l : Fin 128), vhi (ix2 r l) = if l.val < 64 then 0 else V r ⟨l.val % 64, Nat.mod_lt _ (by omega)⟩)
    (r : Fin 128) (l : Fin 128) (hh : Fin 2) (d : Fin 64) (hl : l.val = 64 * hh.val + d.val) :
    unit o h msk (s 0) (s 1) q klo khi vlo vhi (ix2 r l)
      = quot (fun j => Scalar.select (msk (ix2 r j)) (∑ d : Fin 64, q (ix2 r ⟨64 * hh.val + d.val, by omega⟩) * qs * K ⟨o + j.val, by omega⟩ d)
          (if j = 0 then s hh * ln else ⊥)) (fun j => V ⟨o + j.val, by omega⟩ d) := by
  have el : l.val / 64 = hh.val := by omega
  have ed : (⟨l.val % 64, Nat.mod_lt _ (by omega)⟩ : Fin 64) = d := Fin.ext (by simp only; omega)
  pointwise [unit]
  rw [mix_pick _ _ _ r _ hh (fun j => if j = 0 then 0 else V ⟨o + j.val, by omega⟩ d), mix_pick _ _ _ r _ hh (fun _ => 1), quot]
  · simp only [weights_apply, mul_one]
    have hy : ∀ x, (if hh.val = 0 then masked 0 slices_S128x512_o0_0_S128x256 msk (fill (s 0)) (scores q (stack o h klo khi))
        else masked 256 slices_S128x512_o0_256_S128x256 msk (fill (s 1)) (scores q (stack o h klo khi))) (ix2 r x)
        = Scalar.select (msk (ix2 r x)) (∑ d : Fin 64, q (ix2 r ⟨64 * hh.val + d.val, by omega⟩) * qs * K ⟨o + x.val, by omega⟩ d)
          (if x = 0 then s hh * ln else ⊥) := by
      intro x
      fin_cases hh
      · rw [if_pos rfl, masked_apply _ _ _ _ _ _ _ (by omega), fill_apply, scores_apply o ho h klo khi K hklo hkhi q r x 0 _ (by simp)]; rfl
      · rw [if_neg (by simp), masked_apply _ _ _ _ _ _ _ (by omega), fill_apply, scores_apply o ho h klo khi K hklo hkhi q r x 1 _ (by simp)]; rfl
    simp only [hy]
  · intro x; rw [stackV_right, el]
  · intro x; rw [stackV_left, stack_apply o ho h vlo vhi V hvlo hvhi, el, ed]
    by_cases hx : x.val % 256 = 0
    · rw [if_pos hx, if_pos (Fin.ext hx)]; simp
    · rw [if_neg hx, if_neg (fun e => hx (congrArg Fin.val e))]

end Cert.KernelIdeal.Attn
-- ==== Proof.AttnBand.lean ====
/- The attention kernel's masks: which of a window's 256 keys a query attends to. -/
module

public import proofs.«01_k».proof.Proof.AttnUnit

@[expose] public section

set_option maxRecDepth 16384

noncomputable section

namespace Cert.KernelIdeal.Attn

open Cert.KernelIdeal Cert.KernelIdeal.Gen Idealize.ShloMosaic Idealize.ShloMosaic.TcCoe Idealize.SL.Sem

/-- The band as the kernel computes it. -/
theorem pay15_apply (r : Fin 128) (j : Fin 256) : k0_pay15 (ix2 r j) = if j.val ≤ r.val + 128 ∧ r.val < j.val then 1#1 else 0#1 := by
  pointwise [k0_pay15]
  revert r j; decide +kernel

theorem later (n j : ℕ) (hj : j < 256) (hn : n < 256) : IntOp.cmpi .sge (BitVec.ofNat 32 j) (BitVec.ofNat 32 n) = if n ≤ j then 1#1 else 0#1 := by
  have e (x : ℕ) (hx : x < 256) : (BitVec.ofNat 32 x).toInt = x := by
    rw [BitVec.toInt_eq_toNat_of_lt] <;> rw [BitVec.toNat_ofNat, Nat.mod_eq_of_lt (by omega)]; omega
  by_cases h : n ≤ j
  · rw [if_pos h]; simp [IntOp.cmpi, BitVec.sle, e _ hj, e _ hn, h]
  · rw [if_neg h]; simp [IntOp.cmpi, BitVec.sle, e _ hj, e _ hn, h]

/-- … and in the first rows of a block, where the batch's first block has no keys before it. -/
theorem pay16_apply (b : Fin 8) (r : Fin 128) (j : Fin 256) :
    k0_pay16 (Scalar.cmpi .eq (BitVec.ofNat 32 b.val) 0#32) (ix2 r j) = if j.val ≤ r.val + 128 ∧ r.val < j.val ∧ (b.val = 0 → 128 ≤ j.val) then 1#1 else 0#1 := by
  pointwise [k0_pay16]
  have hb : Scalar.select (Scalar.cmpi .eq (BitVec.ofNat 32 b.val) 0#32) 128#32 0#32 = BitVec.ofNat 32 (if b.val = 0 then 128 else 0) := by
    revert b; decide +kernel
  rw [pay15_apply, hb, later _ _ j.isLt (by split <;> omega)]
  by_cases h0 : b.val = 0 <;> by_cases h1 : j.val ≤ r.val + 128 ∧ r.val < j.val <;> by_cases h2 : 128 ≤ j.val <;>
    simp [h0, h1, h2, IntOp.andi]

end Cert.KernelIdeal.Attn
-- ==== Proof.AttnBlock.lean ====
/- What the attention kernel's body leaves in its output block at one grid point: each entry a quotient of sums over the window of 256 keys. -/
module

public import proofs.«01_k».proof.Proof.AttnBand

@[expose] public section

set_option maxRecDepth 16384

noncomputable section

namespace Cert.KernelIdeal.Attn

open Cert.KernelIdeal Cert.KernelIdeal.Gen Idealize.ShloMosaic Idealize.ShloMosaic.TcCoe Idealize.SL.Sem

/-! ## The copies of the keys and the values -/

section Copies
variable (a : Vec Ideal S128x128 .f32) (b : Vec Ideal S1024x128 .f32) (r : Fin 1152) (l : Fin 128)

/-- The rows of keys (or of values): the 128 before the block, then the block's own. -/
def rows (r : Fin 1152) (l : Fin 128) : EReal := if h : r.val < 128 then a (ix2 ⟨r.val, h⟩ l) else b (ix2 ⟨r.val - 128, by omega⟩ l)

/-- The 64 lanes of key head `g`. -/
def head (g : ℕ) (hg : g < 2) (r : Fin 1152) (d : Fin 64) : EReal := rows a b r ⟨64 * g + d.val, by omega⟩

theorem pay2_apply : k0_pay2 a b (ix2 r l) = rows a b r l := by pointwise [k0_pay2]; rfl
theorem pay3_apply : k0_pay3 a b (ix2 r l) = rows a b r l := pay2_apply a b r l

theorem sel (p : Prop) [Decidable p] (x y : EReal) : Scalar.select (if p then 1#1 else 0#1) x y = if p then x else y := by
  by_cases h : p <;> simp [h, Scalar.select]

theorem lo0 : k0_pay7 a b (ix2 r l) = if l.val < 64 then head a b 0 (by omega) r ⟨l.val % 64, Nat.mod_lt _ (by omega)⟩ else 0 := by
  pointwise [k0_pay7, k0_pay4]
  rw [lane_lt, sel]
  split
  · rw [pay2_apply, head]; congr 1; exact Fin.ext (by simp only; omega)
  · rfl

theorem hi0 : k0_pay9 a b (ix2 r l) = if l.val < 64 then 0 else head a b 0 (by omega) r ⟨l.val % 64, Nat.mod_lt _ (by omega)⟩ := by
  pointwise [k0_pay9, k0_pay4, k0_pay5]
  rw [lane_lt, sel]
  split
  · rfl
  · rw [pay2_apply, head]; congr 1; exact Fin.ext (by simp only; omega)

theorem lo1 : k0_pay8 a b (ix2 r l) = if l.val < 64 then head a b 1 (by omega) r ⟨l.val % 64, Nat.mod_lt _ (by omega)⟩ else 0 := by
  pointwise [k0_pay8, k0_pay4, k0_pay5]
  rw [lane_lt, sel]
  split
  · rw [pay2_apply, head]; congr 1; exact Fin.ext (by simp only; omega)
  · rfl

theorem hi1 : k0_pay10 a b (ix2 r l) = if l.val < 64 then 0 else head a b 1 (by omega) r ⟨l.val % 64, Nat.mod_lt _ (by omega)⟩ := by
  pointwise [k0_pay10, k0_pay4]
  rw [lane_lt, sel]
  split
  · rfl
  · rw [pay2_apply, head]; congr 1; exact Fin.ext (by simp only; omega)

theorem vlo0 : k0_pay11 a b (ix2 r l) = if l.val < 64 then head a b 0 (by omega) r ⟨l.val % 64, Nat.mod_lt _ (by omega)⟩ else 0 := lo0 a b r l
theorem vhi0 : k0_pay13 a b (ix2 r l) = if l.val < 64 then 0 else head a b 0 (by omega) r ⟨l.val % 64, Nat.mod_lt _ (by omega)⟩ := hi0 a b r l
theorem vlo1 : k0_pay12 a b (ix2 r l) = if l.val < 64 then head a b 1 (by omega) r ⟨l.val % 64, Nat.mod_lt _ (by omega)⟩ else 0 := lo1 a b r l
theorem vhi1 : k0_pay14 (k0_pay3 a b) k0_pay4 (ix2 r l) = if l.val < 64 then 0 else head a b 1 (by omega) r ⟨l.val % 64, Nat.mod_lt _ (by omega)⟩ := hi1 a b r l
end Copies

/-! ## The block -/

/-- The band of the window: a key is at most 127 before its query; in the first rows of a batch no key before the batch. -/
def band (b qb : Fin 8) (r : Fin 128) (j : Fin 256) : Prop := j.val ≤ r.val + 128 ∧ r.val < j.val ∧ (b.val = 0 ∧ qb.val = 0 → 128 ≤ j.val)

instance (b qb : Fin 8) (r : Fin 128) (j : Fin 256) : Decidable (band b qb r j) := by unfold band; infer_instance

/-- An entry of the output block, from the sinks, the queries, and the rows of keys and of values: block `b` of the batch, rows `qb`, row `r`,
    key head `g`, its query head `e`, lane `d`. -/
def entry (b : Fin 8) (S : Fin 8 → EReal) (Q : Fin 1024 → Fin 512 → EReal) (K V : Fin 2 → Fin 1152 → Fin 64 → EReal) (qb : Fin 8) (r : Fin 128) (g : Fin 2) (e : Fin 4) (d : Fin 64) : EReal :=
  quot (fun j => if band b qb r j then
      ∑ d : Fin 64, Q ⟨128 * qb.val + r.val, by omega⟩ ⟨256 * g.val + 64 * e.val + d.val, by omega⟩ * qs * K g ⟨128 * qb.val + j.val, by omega⟩ d
      else if j = 0 then S ⟨4 * g.val + e.val, by omega⟩ * ln else ⊥)
    (fun j => V g ⟨128 * qb.val + j.val, by omega⟩ d)

/-- The entry at an index of the block. -/
def entryAt (b : Fin 8) (S : Fin 8 → EReal) (Q : Fin 1024 → Fin 512 → EReal) (K V : Fin 2 → Fin 1152 → Fin 64 → EReal) (y0 : Fin 1024) (y1 : Fin 512) : EReal :=
  entry b S Q K V ⟨y0.val / 128, by omega⟩ ⟨y0.val % 128, by omega⟩ ⟨y1.val / 256, by omega⟩ ⟨y1.val / 64 % 4, by omega⟩ ⟨y1.val % 64, by omega⟩

/-- The kernel's mask of rows `qb`. -/
def Masks (b qb : Fin 8) (msk : IVec S128x256 1) : Prop := ∀ r j, msk (ix2 r j) = if band b qb r j then 1#1 else 0#1

theorem masks_later (b qb : Fin 8) (h : qb.val ≠ 0) : Masks b qb k0_pay15 := fun r j => by
  rw [pay15_apply]; exact if_congr ⟨fun ⟨h1, h2⟩ => ⟨h1, h2, fun h3 => absurd h3.2 h⟩, fun h => ⟨h.1, h.2.1⟩⟩ rfl rfl

theorem masks_first (b : Fin 8) : Masks b 0 (k0_pay16 (Scalar.cmpi .eq (BitVec.ofNat 32 b.val) 0#32)) := fun r j => by
  rw [pay16_apply]; exact if_congr ⟨fun ⟨h1, h2, h3⟩ => ⟨h1, h2, fun h4 => h3 h4.1⟩, fun ⟨h1, h2, h3⟩ => ⟨h1, h2, fun h4 => h3 ⟨h4, rfl⟩⟩⟩ rfl rfl

/-- A stored tile is the unit of its rows and its pair of heads, and holds the entries of its place in the block. -/
theorem tile (b qb : Fin 8) (g ip : Fin 2) (S : Vec Ideal S8 .f32) (X : Vec Ideal S1024x512 .f32) (K V : Fin 2 → Fin 1152 → Fin 64 → EReal)
    (o : ℕ) (ho : o = 128 * qb.val) (o1 : ℕ) (ho1 : o1 = 128 * (2 * g.val + ip.val)) (o2 : ℕ) (ho2 : o2 = 4 * g.val + 2 * ip.val) (o3 : ℕ) (ho3 : o3 = 4 * g.val + 2 * ip.val + 1)
    (h : S1152x128.Slices ![o, 0] S256x128) (msk : IVec S128x256 1) (hm : Masks b qb msk)
    (inb2 : ∀ a, ![o2] a + ![1] a ≤ S8.size a) (inb3 : ∀ a, ![o3] a + ![1] a ≤ S8.size a) (inbq : ∀ a, ![o, o1] a + ![128, 128] a ≤ S1024x512.size a)
    (i2 : (Rect.unit ![o2] ![1] inb2 : Rect S8).shape.Idx) (i3 : (Rect.unit ![o3] ![1] inb3 : Rect S8).shape.Idx)
    (klo khi vlo vhi : FVec Ideal S1152x128 .bf16)
    (hklo : ∀ r (l : Fin 128), klo (ix2 r l) = if l.val < 64 then K g r ⟨l.val % 64, Nat.mod_lt _ (by omega)⟩ else 0)
    (hkhi : ∀ r (l : Fin 128), khi (ix2 r l) = if l.val < 64 then 0 else K g r ⟨l.val % 64, Nat.mod_lt _ (by omega)⟩)
    (hvlo : ∀ r (l : Fin 128), vlo (ix2 r l) = if l.val < 64 then V g r ⟨l.val % 64, Nat.mod_lt _ (by omega)⟩ else 0)
    (hvhi : ∀ r (l : Fin 128), vhi (ix2 r l) = if l.val < 64 then 0 else V g r ⟨l.val % 64, Nat.mod_lt _ (by omega)⟩)
    (x : S128x128.Idx) (y : S1024x512.Idx) (h0 : (y 0).val = o + (x 0).val) (h1 : (y 1).val = o1 + (x 1).val) (h2 : (x 0).val < 128) (h3 : (x 1).val < 128) :
    unit o h msk (View.ld S (Rect.unit ![o2] ![1] inb2) i2) (View.ld S (Rect.unit ![o3] ![1] inb3) i3) (View.ld X (Rect.unit ![o, o1] ![128, 128] inbq)) klo khi vlo vhi x
      = entryAt b (fun e => S (ix1 e)) (fun r l => X (ix2 r l)) K V (y 0) (y 1) := by
  have hg := g.isLt; have hip := ip.isLt; have hqb := qb.isLt
  have hx : x = ix2 (⟨(x 0).val, h2⟩ : Fin 128) ⟨(x 1).val, h3⟩ := by ext a; fin_cases a <;> rfl
  have hS (n : ℕ) (inb : ∀ a, ![n] a + ![1] a ≤ S8.size a) (i : (Rect.unit ![n] ![1] inb : Rect S8).shape.Idx) (e : Fin 8) (he : e.val = n) :
      View.ld S (Rect.unit ![n] ![1] inb) i = S (ix1 e) := by
    have hi : (i 0).val < 1 := (i 0).isLt
    refine View.ld_unit_apply_of S _ _ _ i _ fun a => ?_
    fin_cases a; show e.val = n + (i 0).val; omega
  have hX (r c : Fin 128) : View.ld X (Rect.unit ![o, o1] ![128, 128] inbq) (ix2 r c) = X (ix2 ⟨o + r.val, by omega⟩ ⟨o1 + c.val, by omega⟩) := by
    refine View.ld_unit_apply_of X _ _ _ _ _ fun a => ?_
    fin_cases a <;> rfl
  have e0 : entryAt b (fun e => S (ix1 e)) (fun r l => X (ix2 r l)) K V (y 0) (y 1)
      = entry b (fun e => S (ix1 e)) (fun r l => X (ix2 r l)) K V qb ⟨(x 0).val, h2⟩ g ⟨2 * ip.val + (x 1).val / 64, by omega⟩ ⟨(x 1).val % 64, by omega⟩ := by
    unfold entryAt
    congr 1 <;> exact Fin.ext (by simp only [h0, h1, ho, ho1]; omega)
  rw [e0, hS o2 inb2 i2 ⟨o2, by omega⟩ rfl, hS o3 inb3 i3 ⟨o3, by omega⟩ rfl, congrArg (unit o h msk _ _ _ klo khi vlo vhi) hx]
  subst ho ho1 ho2 ho3
  refine (unit_apply _ (by omega) h msk (fun hh => S (ix1 ⟨4 * g.val + 2 * ip.val + hh.val, by omega⟩)) _ klo khi vlo vhi (K g) (V g) hklo hkhi hvlo hvhi _ _
    ⟨(x 1).val / 64, by omega⟩ ⟨(x 1).val % 64, by omega⟩ (by simp only; omega)).trans ?_
  unfold entry
  congr 1
  funext j
  rw [hm, sel]
  congr 1
  · refine Finset.sum_congr rfl fun d _ => ?_
    rw [hX]
    congr 4; exact Fin.ext (by simp only; omega)
  · have e1 : (⟨4 * g.val + 2 * ip.val + (x 1).val / 64, by omega⟩ : Fin 8) = ⟨4 * g.val + (2 * ip.val + (x 1).val / 64), by omega⟩ := Fin.ext (by simp only; omega)
    rw [e1]

variable (m : (ℓ : Loc nD τ sig) → Buf (Elt Ideal) ℓ)

/-- The keys (the values) of a head at a grid point. -/
def heads (a : Vec Ideal S128x128 .f32) (b : Vec Ideal S1024x128 .f32) (g : Fin 2) : Fin 1152 → Fin 64 → EReal := head a b g.val g.isLt

set_option maxHeartbeats 2000000 in
/-- What the body leaves in the output block. -/
theorem outs_apply (c : Dev nD) (t : Fin cfg0.N) (y : S1024x512.Idx) :
    outsAt0 m c t y = entryAt ⟨(grid0.coords t 1).val, (grid0.coords t 1).isLt⟩ (fun e => iblk m c 0 t (ix1 e)) (fun r l => X0_1 m c t (ix2 r l))
      (heads (iblk m c 2 t) (iblk m c 3 t)) (heads (iblk m c 4 t) (iblk m c 5 t)) (y 0) (y 1) := by
  unfold outsAt0
  frame_out
  canon_tiles x h
  case piece0 => exact tile _ 7 1 1 _ _ _ _ 896 rfl 384 rfl 6 rfl 7 rfl slices_S1152x128_o896_0_S256x128 _ (masks_later _ _ (by decide)) inb_S8_S1_6 inb_S8_S1_7 inb_S1024x512_S128x128_896_384 _ _ _ _ _ _ (lo1 _ _) (hi1 _ _) (vlo1 _ _) (vhi1 _ _) x y (by omega) (by omega) x0_lt x1_lt
  case piece1 => exact tile _ 7 1 0 _ _ _ _ 896 rfl 256 rfl 4 rfl 5 rfl slices_S1152x128_o896_0_S256x128 _ (masks_later _ _ (by decide)) inb_S8_S1_4 inb_S8_S1_5 inb_S1024x512_S128x128_896_256 _ _ _ _ _ _ (lo1 _ _) (hi1 _ _) (vlo1 _ _) (vhi1 _ _) x y (by omega) (by omega) x0_lt x1_lt
  case piece2 => exact tile _ 7 0 1 _ _ _ _ 896 rfl 128 rfl 2 rfl 3 rfl slices_S1152x128_o896_0_S256x128 _ (masks_later _ _ (by decide)) inb_S8_S1_2 inb_S8_S1_3 inb_S1024x512_S128x128_896_128 _ _ _ _ _ _ (lo0 _ _) (hi0 _ _) (vlo0 _ _) (vhi0 _ _) x y (by omega) (by omega) x0_lt x1_lt
  case piece3 => exact tile _ 7 0 0 _ _ _ _ 896 rfl 0 rfl 0 rfl 1 rfl slices_S1152x128_o896_0_S256x128 _ (masks_later _ _ (by decide)) inb_S8_S1_0 inb_S8_S1_1 inb_S1024x512_S128x128_896_0 _ _ _ _ _ _ (lo0 _ _) (hi0 _ _) (vlo0 _ _) (vhi0 _ _) x y (by omega) (by omega) x0_lt x1_lt
  case piece4 => exact tile _ 6 1 1 _ _ _ _ 768 rfl 384 rfl 6 rfl 7 rfl slices_S1152x128_o768_0_S256x128 _ (masks_later _ _ (by decide)) inb_S8_S1_6 inb_S8_S1_7 inb_S1024x512_S128x128_768_384 _ _ _ _ _ _ (lo1 _ _) (hi1 _ _) (vlo1 _ _) (vhi1 _ _) x y (by omega) (by omega) x0_lt x1_lt
  case piece5 => exact tile _ 6 1 0 _ _ _ _ 768 rfl 256 rfl 4 rfl 5 rfl slices_S1152x128_o768_0_S256x128 _ (masks_later _ _ (by decide)) inb_S8_S1_4 inb_S8_S1_5 inb_S1024x512_S128x128_768_256 _ _ _ _ _ _ (lo1 _ _) (hi1 _ _) (vlo1 _ _) (vhi1 _ _) x y (by omega) (by omega) x0_lt x1_lt
  case piece6 => exact tile _ 6 0 1 _ _ _ _ 768 rfl 128 rfl 2 rfl 3 rfl slices_S1152x128_o768_0_S256x128 _ (masks_later _ _ (by decide)) inb_S8_S1_2 inb_S8_S1_3 inb_S1024x512_S128x128_768_128 _ _ _ _ _ _ (lo0 _ _) (hi0 _ _) (vlo0 _ _) (vhi0 _ _) x y (by omega) (by omega) x0_lt x1_lt
  case piece7 => exact tile _ 6 0 0 _ _ _ _ 768 rfl 0 rfl 0 rfl 1 rfl slices_S1152x128_o768_0_S256x128 _ (masks_later _ _ (by decide)) inb_S8_S1_0 inb_S8_S1_1 inb_S1024x512_S128x128_768_0 _ _ _ _ _ _ (lo0 _ _) (hi0 _ _) (vlo0 _ _) (vhi0 _ _) x y (by omega) (by omega) x0_lt x1_lt
  case piece8 => exact tile _ 5 1 1 _ _ _ _ 640 rfl 384 rfl 6 rfl 7 rfl slices_S1152x128_o640_0_S256x128 _ (masks_later _ _ (by decide)) inb_S8_S1_6 inb_S8_S1_7 inb_S1024x512_S128x128_640_384 _ _ _ _ _ _ (lo1 _ _) (hi1 _ _) (vlo1 _ _) (vhi1 _ _) x y (by omega) (by omega) x0_lt x1_lt
  case piece9 => exact tile _ 5 1 0 _ _ _ _ 640 rfl 256 rfl 4 rfl 5 rfl slices_S1152x128_o640_0_S256x128 _ (masks_later _ _ (by decide)) inb_S8_S1_4 inb_S8_S1_5 inb_S1024x512_S128x128_640_256 _ _ _ _ _ _ (lo1 _ _) (hi1 _ _) (vlo1 _ _) (vhi1 _ _) x y (by omega) (by omega) x0_lt x1_lt
  case piece10 => exact tile _ 5 0 1 _ _ _ _ 640 rfl 128 rfl 2 rfl 3 rfl slices_S1152x128_o640_0_S256x128 _ (masks_later _ _ (by decide)) inb_S8_S1_2 inb_S8_S1_3 inb_S1024x512_S128x128_640_128 _ _ _ _ _ _ (lo0 _ _) (hi0 _ _) (vlo0 _ _) (vhi0 _ _) x y (by omega) (by omega) x0_lt x1_lt
  case piece11 => exact tile _ 5 0 0 _ _ _ _ 640 rfl 0 rfl 0 rfl 1 rfl slices_S1152x128_o640_0_S256x128 _ (masks_later _ _ (by decide)) inb_S8_S1_0 inb_S8_S1_1 inb_S1024x512_S128x128_640_0 _ _ _ _ _ _ (lo0 _ _) (hi0 _ _) (vlo0 _ _) (vhi0 _ _) x y (by omega) (by omega) x0_lt x1_lt
  case piece12 => exact tile _ 4 1 1 _ _ _ _ 512 rfl 384 rfl 6 rfl 7 rfl slices_S1152x128_o512_0_S256x128 _ (masks_later _ _ (by decide)) inb_S8_S1_6 inb_S8_S1_7 inb_S1024x512_S128x128_512_384 _ _ _ _ _ _ (lo1 _ _) (hi1 _ _) (vlo1 _ _) (vhi1 _ _) x y (by omega) (by omega) x0_lt x1_lt
  case piece13 => exact tile _ 4 1 0 _ _ _ _ 512 rfl 256 rfl 4 rfl 5 rfl slices_S1152x128_o512_0_S256x128 _ (masks_later _ _ (by decide)) inb_S8_S1_4 inb_S8_S1_5 inb_S1024x512_S128x128_512_256 _ _ _ _ _ _ (lo1 _ _) (hi1 _ _) (vlo1 _ _) (vhi1 _ _) x y (by omega) (by omega) x0_lt x1_lt
  case piece14 => exact tile _ 4 0 1 _ _ _ _ 512 rfl 128 rfl 2 rfl 3 rfl slices_S1152x128_o512_0_S256x128 _ (masks_later _ _ (by decide)) inb_S8_S1_2 inb_S8_S1_3 inb_S1024x512_S128x128_512_128 _ _ _ _ _ _ (lo0 _ _) (hi0 _ _) (vlo0 _ _) (vhi0 _ _) x y (by omega) (by omega) x0_lt x1_lt
  case piece15 => exact tile _ 4 0 0 _ _ _ _ 512 rfl 0 rfl 0 rfl 1 rfl slices_S1152x128_o512_0_S256x128 _ (masks_later _ _ (by decide)) inb_S8_S1_0 inb_S8_S1_1 inb_S1024x512_S128x128_512_0 _ _ _ _ _ _ (lo0 _ _) (hi0 _ _) (vlo0 _ _) (vhi0 _ _) x y (by omega) (by omega) x0_lt x1_lt
  case piece16 => exact tile _ 3 1 1 _ _ _ _ 384 rfl 384 rfl 6 rfl 7 rfl slices_S1152x128_o384_0_S256x128 _ (masks_later _ _ (by decide)) inb_S8_S1_6 inb_S8_S1_7 inb_S1024x512_S128x128_384_384 _ _ _ _ _ _ (lo1 _ _) (hi1 _ _) (vlo1 _ _) (vhi1 _ _) x y (by omega) (by omega) x0_lt x1_lt
  case piece17 => exact tile _ 3 1 0 _ _ _ _ 384 rfl 256 rfl 4 rfl 5 rfl slices_S1152x128_o384_0_S256x128 _ (masks_later _ _ (by decide)) inb_S8_S1_4 inb_S8_S1_5 inb_S1024x512_S128x128_384_256 _ _ _ _ _ _ (lo1 _ _) (hi1 _ _) (vlo1 _ _) (vhi1 _ _) x y (by omega) (by omega) x0_lt x1_lt
  case piece18 => exact tile _ 3 0 1 _ _ _ _ 384 rfl 128 rfl 2 rfl 3 rfl slices_S1152x128_o384_0_S256x128 _ (masks_later _ _ (by decide)) inb_S8_S1_2 inb_S8_S1_3 inb_S1024x512_S128x128_384_128 _ _ _ _ _ _ (lo0 _ _) (hi0 _ _) (vlo0 _ _) (vhi0 _ _) x y (by omega) (by omega) x0_lt x1_lt
  case piece19 => exact tile _ 3 0 0 _ _ _ _ 384 rfl 0 rfl 0 rfl 1 rfl slices_S1152x128_o384_0_S256x128 _ (masks_later _ _ (by decide)) inb_S8_S1_0 inb_S8_S1_1 inb_S1024x512_S128x128_384_0 _ _ _ _ _ _ (lo0 _ _) (hi0 _ _) (vlo0 _ _) (vhi0 _ _) x y (by omega) (by omega) x0_lt x1_lt
  case piece20 => exact tile _ 2 1 1 _ _ _ _ 256 rfl 384 rfl 6 rfl 7 rfl slices_S1152x128_o256_0_S256x128 _ (masks_later _ _ (by decide)) inb_S8_S1_6 inb_S8_S1_7 inb_S1024x512_S128x128_256_384 _ _ _ _ _ _ (lo1 _ _) (hi1 _ _) (vlo1 _ _) (vhi1 _ _) x y (by omega) (by omega) x0_lt x1_lt
  case piece21 => exact tile _ 2 1 0 _ _ _ _ 256 rfl 256 rfl 4 rfl 5 rfl slices_S1152x128_o256_0_S256x128 _ (masks_later _ _ (by decide)) inb_S8_S1_4 inb_S8_S1_5 inb_S1024x512_S128x128_256_256 _ _ _ _ _ _ (lo1 _ _) (hi1 _ _) (vlo1 _ _) (vhi1 _ _) x y (by omega) (by omega) x0_lt x1_lt
  case piece22 => exact tile _ 2 0 1 _ _ _ _ 256 rfl 128 rfl 2 rfl 3 rfl slices_S1152x128_o256_0_S256x128 _ (masks_later _ _ (by decide)) inb_S8_S1_2 inb_S8_S1_3 inb_S1024x512_S128x128_256_128 _ _ _ _ _ _ (lo0 _ _) (hi0 _ _) (vlo0 _ _) (vhi0 _ _) x y (by omega) (by omega) x0_lt x1_lt
  case piece23 => exact tile _ 2 0 0 _ _ _ _ 256 rfl 0 rfl 0 rfl 1 rfl slices_S1152x128_o256_0_S256x128 _ (masks_later _ _ (by decide)) inb_S8_S1_0 inb_S8_S1_1 inb_S1024x512_S128x128_256_0 _ _ _ _ _ _ (lo0 _ _) (hi0 _ _) (vlo0 _ _) (vhi0 _ _) x y (by omega) (by omega) x0_lt x1_lt
  case piece24 => exact tile _ 1 1 1 _ _ _ _ 128 rfl 384 rfl 6 rfl 7 rfl slices_S1152x128_o128_0_S256x128 _ (masks_later _ _ (by decide)) inb_S8_S1_6 inb_S8_S1_7 inb_S1024x512_S128x128_128_384 _ _ _ _ _ _ (lo1 _ _) (hi1 _ _) (vlo1 _ _) (vhi1 _ _) x y (by omega) (by omega) x0_lt x1_lt
  case piece25 => exact tile _ 1 1 0 _ _ _ _ 128 rfl 256 rfl 4 rfl 5 rfl slices_S1152x128_o128_0_S256x128 _ (masks_later _ _ (by decide)) inb_S8_S1_4 inb_S8_S1_5 inb_S1024x512_S128x128_128_256 _ _ _ _ _ _ (lo1 _ _) (hi1 _ _) (vlo1 _ _) (vhi1 _ _) x y (by omega) (by omega) x0_lt x1_lt
  case piece26 => exact tile _ 1 0 1 _ _ _ _ 128 rfl 128 rfl 2 rfl 3 rfl slices_S1152x128_o128_0_S256x128 _ (masks_later _ _ (by decide)) inb_S8_S1_2 inb_S8_S1_3 inb_S1024x512_S128x128_128_128 _ _ _ _ _ _ (lo0 _ _) (hi0 _ _) (vlo0 _ _) (vhi0 _ _) x y (by omega) (by omega) x0_lt x1_lt
  case piece27 => exact tile _ 1 0 0 _ _ _ _ 128 rfl 0 rfl 0 rfl 1 rfl slices_S1152x128_o128_0_S256x128 _ (masks_later _ _ (by decide)) inb_S8_S1_0 inb_S8_S1_1 inb_S1024x512_S128x128_128_0 _ _ _ _ _ _ (lo0 _ _) (hi0 _ _) (vlo0 _ _) (vhi0 _ _) x y (by omega) (by omega) x0_lt x1_lt
  case piece28 => exact tile _ 0 1 1 _ _ _ _ 0 rfl 384 rfl 6 rfl 7 rfl slices_S1152x128_o0_0_S256x128 _ (masks_first _) inb_S8_S1_6 inb_S8_S1_7 inb_S1024x512_S128x128_0_384 _ _ _ _ _ _ (lo1 _ _) (hi1 _ _) (vlo1 _ _) (vhi1 _ _) x y (by omega) (by omega) x0_lt x1_lt
  case piece29 => exact tile _ 0 1 0 _ _ _ _ 0 rfl 256 rfl 4 rfl 5 rfl slices_S1152x128_o0_0_S256x128 _ (masks_first _) inb_S8_S1_4 inb_S8_S1_5 inb_S1024x512_S128x128_0_256 _ _ _ _ _ _ (lo1 _ _) (hi1 _ _) (vlo1 _ _) (vhi1 _ _) x y (by omega) (by omega) x0_lt x1_lt
  case piece30 => exact tile _ 0 0 1 _ _ _ _ 0 rfl 128 rfl 2 rfl 3 rfl slices_S1152x128_o0_0_S256x128 _ (masks_first _) inb_S8_S1_2 inb_S8_S1_3 inb_S1024x512_S128x128_0_128 _ _ _ _ _ _ (lo0 _ _) (hi0 _ _) (vlo0 _ _) (vhi0 _ _) x y (by omega) (by omega) x0_lt x1_lt
  case piece31 => exact tile _ 0 0 0 _ _ _ _ 0 rfl 0 rfl 0 rfl 1 rfl slices_S1152x128_o0_0_S256x128 _ (masks_first _) inb_S8_S1_0 inb_S8_S1_1 inb_S1024x512_S128x128_0_0 _ _ _ _ _ _ (lo0 _ _) (hi0 _ _) (vlo0 _ _) (vhi0 _ _) x y (by omega) (by omega) x0_lt x1_lt

end Cert.KernelIdeal.Attn
-- ==== Proof.AttnMath.lean ====
/- The softmax of one query against a window of 256 keys and one sink, twice: as the attention kernel computes it
   (base two, the sink in the slot of key 0, one quotient at the end) and as the reference does (base e, the sink in a
   slot of its own, one quotient per key). For finite scores the two are equal. -/
module

public import Idealize.ShloMosaic.PureOps.Ideal
public import Idealize.ShloMosaic.PureOps.Ideal.Laws
public import Idealize.ShloMosaic.Lib.IdealHost

@[expose] public section

noncomputable section

namespace Cert.AttnMath

open Idealize.ShloMosaic

/-- Among finitely many scores and a sink there is a greatest. -/
theorem exists_max (valid : Fin 256 → Prop) (t : Fin 256 → ℝ) (s : ℝ) :
    ∃ m : ℝ, (∀ j, valid j → t j ≤ m) ∧ s ≤ m ∧ (s = m ∨ ∃ j, valid j ∧ t j = m) := by
  classical
  let S : Finset ℝ := insert s ((Finset.univ.filter valid).image t)
  have hS : S.Nonempty := ⟨s, Finset.mem_insert_self _ _⟩
  refine ⟨S.max' hS, fun j hj => S.le_max' _ ?_, S.le_max' _ (Finset.mem_insert_self _ _), ?_⟩
  · exact Finset.mem_insert_of_mem (Finset.mem_image_of_mem _ (by simpa using hj))
  · rcases Finset.mem_insert.mp (S.max'_mem hS) with h | h
    · exact .inl h.symm
    · obtain ⟨j, hj, h⟩ := Finset.mem_image.mp h
      exact .inr ⟨j, by simpa using hj, h⟩

/-- Two to a score in base two is `e` to the score. -/
theorem exp2_div_log (r m : ℝ) :
    Ideal.exp2 (((r * (Real.log 2)⁻¹ : ℝ) : EReal) - ((m * (Real.log 2)⁻¹ : ℝ) : EReal)) = ((Real.exp (r - m) : ℝ) : EReal) := by
  rw [← EReal.coe_sub]
  show ((Real.rpow 2 _ : ℝ) : EReal) = _
  have h : Real.log 2 ≠ 0 := (Real.log_pos (by norm_num)).ne'
  congr 1
  show (2 : ℝ) ^ (_ : ℝ) = _
  rw [Real.rpow_def_of_pos (by norm_num)]
  congr 1
  field_simp

/-- `e` to a finite difference. -/
theorem exp_sub (r m : ℝ) : Ideal.exp ((r : EReal) - (m : EReal)) = ((Real.exp (r - m) : ℝ) : EReal) := by
  rw [← EReal.coe_sub]; rfl

/-- A masked slot weighs nothing, in base two … -/
theorem exp2_bot (m : ℝ) : Ideal.exp2 ((⊥ : EReal) - (m : EReal)) = 0 := by
  rw [show (⊥ : EReal) - (m : EReal) = ⊥ from EReal.bot_sub _]; rfl

/-- … and in base e. -/
theorem exp_bot (m : ℝ) : Ideal.exp ((⊥ : EReal) - (m : EReal)) = 0 := by
  rw [show (⊥ : EReal) - (m : EReal) = ⊥ from EReal.bot_sub _]; rfl

/-- A sum of finite numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of finite numbers. -/
theorem div_coe (a b : ℝ) (hb : b ≠ 0) : Ideal.div (a : EReal) (b : EReal) = ((a / b : ℝ) : EReal) := by
  unfold Ideal.div
  rw [if_neg (by simpa using hb), div_eq_mul_inv, EReal.coe_mul, EReal.coe_inv]

/-- The kernel's quotient is the reference's weighted mean: `y` are the kernel's scores (base two, the sink at key 0,
    which the window never admits), `x` the reference's (base e, the sink last), `v` the values. -/
theorem softmax_eq (valid : Fin 256 → Prop) [DecidablePred valid] (h0 : ¬ valid 0) (t : Fin 256 → ℝ) (s : ℝ) (v : Fin 256 → ℝ)
    (y : Fin 256 → EReal) (hy : ∀ j, y j = if valid j then ((t j * (Real.log 2)⁻¹ : ℝ) : EReal)
      else if j = 0 then ((s * (Real.log 2)⁻¹ : ℝ) : EReal) else ⊥)
    (x : Fin 257 → EReal) (hx : ∀ j : Fin 256, x j.castSucc = if valid j then ((t j : ℝ) : EReal) else ⊥)
    (hs : x (Fin.last 256) = (s : EReal)) :
    Ideal.div (∑ j, Ideal.exp2 (y j - Finset.univ.fold max ⊥ y) * (if j = 0 then 0 else (v j : EReal)))
        (∑ j, Ideal.exp2 (y j - Finset.univ.fold max ⊥ y))
      = ∑ j : Fin 256, (v j : EReal) * Ideal.div (Ideal.exp (x j.castSucc - max ⊥ (Finset.univ.fold max ⊥ x)))
          (0 + ∑ i, Ideal.exp (x i - max ⊥ (Finset.univ.fold max ⊥ x))) := by
  obtain ⟨m, ht, hsm, hm⟩ := exists_max valid t s
  have hc : 0 ≤ (Real.log 2)⁻¹ := inv_nonneg.mpr (Real.log_nonneg (by norm_num))
  -- the greatest score, on both sides
  have hY : Finset.univ.fold max ⊥ y = ((m * (Real.log 2)⁻¹ : ℝ) : EReal) := by
    show Finset.univ.sup y = _
    apply le_antisymm
    · refine Finset.sup_le fun j _ => ?_
      rw [hy]
      split_ifs with h h'
      · exact EReal.coe_le_coe_iff.mpr (mul_le_mul_of_nonneg_right (ht j h) hc)
      · exact EReal.coe_le_coe_iff.mpr (mul_le_mul_of_nonneg_right hsm hc)
      · exact bot_le
    · rcases hm with h | ⟨j, hj, h⟩
      · have := hy 0
        rw [if_neg h0, if_pos rfl, h] at this
        rw [← this]; exact Finset.le_sup (Finset.mem_univ _)
      · have := hy j
        rw [if_pos hj, h] at this
        rw [← this]; exact Finset.le_sup (Finset.mem_univ _)
  have hX : max ⊥ (Finset.univ.fold max ⊥ x) = (m : EReal) := by
    rw [max_eq_right bot_le]
    show Finset.univ.sup x = _
    apply le_antisymm
    · refine Finset.sup_le fun j _ => ?_
      refine Fin.lastCases ?_ (fun j => ?_) j
      · rw [hs]; exact EReal.coe_le_coe_iff.mpr hsm
      · rw [hx]
        split_ifs with h
        · exact EReal.coe_le_coe_iff.mpr (ht j h)
        · exact bot_le
    · rcases hm with h | ⟨j, hj, h⟩
      · rw [← h, ← hs]; exact Finset.le_sup (Finset.mem_univ _)
      · have := hx j
        rw [if_pos hj, h] at this
        rw [← this]; exact Finset.le_sup (Finset.mem_univ _)
  rw [hY, hX]
  -- the weights, as real numbers
  let w : Fin 256 → ℝ := fun j => if valid j then Real.exp (t j - m) else 0
  have hw : ∀ j, Ideal.exp (x j.castSucc - (m : EReal)) = ((w j : ℝ) : EReal) := fun j => by
    rw [hx]
    by_cases h : valid j
    · simp only [w, if_pos h, exp_sub]
    · simp only [w, if_neg h, exp_bot, EReal.coe_zero]
  have hu : ∀ j, Ideal.exp2 (y j - ((m * (Real.log 2)⁻¹ : ℝ) : EReal)) = ((w j + if j = 0 then Real.exp (s - m) else 0 : ℝ) : EReal) := fun j => by
    rw [hy]
    by_cases h : valid j
    · have : j ≠ 0 := fun e => h0 (e ▸ h)
      simp only [w, if_pos h, exp2_div_log, if_neg this, add_zero]
    · by_cases h' : j = 0
      · simp only [w, if_neg h, if_pos h', exp2_div_log, zero_add]
      · simp only [w, if_neg h, if_neg h', exp2_bot, zero_add, EReal.coe_zero]
  have hw0 : w 0 = 0 := if_neg h0
  have hwn : ∀ j, 0 ≤ w j := fun j => by
    simp only [w]; split_ifs
    · exact (Real.exp_pos _).le
    · exact le_rfl
  let D : ℝ := ∑ j, w j + Real.exp (s - m)
  have hD : D ≠ 0 := (add_pos_of_nonneg_of_pos (Finset.sum_nonneg fun j _ => hwn j) (Real.exp_pos _)).ne'
  have hden : ∑ j, Ideal.exp2 (y j - ((m * (Real.log 2)⁻¹ : ℝ) : EReal)) = (D : EReal) := by
    simp only [hu, ← coe_sum, D]
    congr 1
    rw [Finset.sum_add_distrib, Finset.sum_ite_eq' Finset.univ (0 : Fin 256) (fun _ => Real.exp (s - m)), if_pos (Finset.mem_univ _)]
  have hden' : 0 + ∑ i, Ideal.exp (x i - (m : EReal)) = (D : EReal) := by
    rw [zero_add, Fin.sum_univ_castSucc, hs, exp_sub]
    simp only [hw, ← coe_sum, D, EReal.coe_add]
  have hnum : ∑ j, Ideal.exp2 (y j - ((m * (Real.log 2)⁻¹ : ℝ) : EReal)) * (if j = 0 then 0 else (v j : EReal))
      = ((∑ j, w j * v j : ℝ) : EReal) := by
    rw [coe_sum]
    refine Finset.sum_congr rfl fun j _ => ?_
    rw [hu]
    by_cases h : j = 0
    · subst h; simp [hw0]
    · simp only [if_neg h, add_zero, EReal.coe_mul]
  rw [hden, hden', hnum, div_coe _ _ hD, Finset.sum_div, coe_sum]
  refine Finset.sum_congr rfl fun j _ => ?_
  rw [hw, div_coe _ _ hD, ← EReal.coe_mul]
  congr 1; ring

/-! ## The window of a token -/

/-- Key slot `j` of the window of token `n`, lane `c` of the packed projections: the window starts 128 rows before the token's own 128 rows,
    and holds zero before its batch. -/
def slot (P : Fin 16384 → Fin 768 → EReal) (n : Fin 16384) (j : Fin 256) (c : Fin 768) : EReal :=
  if h : n.val % 8192 / 128 = 0 ∧ j.val < 128 then 0 else P ⟨128 * (n.val / 128) + j.val - 128, by omega⟩ c

/-- Whether a token attends to a slot of its window. -/
def live (n : Fin 16384) (j : Fin 256) : Prop := j.val ≤ n.val % 128 + 128 ∧ n.val % 128 < j.val ∧ (n.val % 8192 / 128 = 0 → 128 ≤ j.val)

instance (n : Fin 16384) (j : Fin 256) : Decidable (live n j) := by unfold live; infer_instance

end Cert.AttnMath

end
-- ==== Proof.AttnArray.lean ====
/- The attention kernel's output array: each entry a quotient of sums over the window of 256 keys of its token, in the packed projections. -/
module

public import proofs.«01_k».proof.Proof.AttnBlock
public import proofs.«01_k».proof.Proof.AttnMath

@[expose] public section

set_option maxRecDepth 16384

noncomputable section

namespace Cert.KernelIdeal.Attn

open Cert.KernelIdeal Cert.KernelIdeal.Gen Cert.AttnMath Idealize.ShloMosaic Idealize.ShloMosaic.TcCoe Idealize.SL.Sem

/-- A token's output in query head `4 g + e`, lane `d`, as the kernel computes it. -/
def attn (P : Fin 16384 → Fin 768 → EReal) (S : Fin 8 → EReal) (n : Fin 16384) (g : Fin 2) (e : Fin 4) (d : Fin 64) : EReal :=
  quot (fun j => if live n j then
      ∑ d : Fin 64, P n ⟨256 * g.val + 64 * e.val + d.val, by omega⟩ * qs * slot P n j ⟨512 + 64 * g.val + d.val, by omega⟩
      else if j = 0 then S ⟨4 * g.val + e.val, by omega⟩ * ln else ⊥)
    (fun j => slot P n j ⟨640 + 64 * g.val + d.val, by omega⟩)

/-- Only the values of slots that weigh something matter. -/
theorem quot_congr (y y' v v' : Fin 256 → EReal) (hy : ∀ j, y j = y' j) (h : ∀ j, j ≠ 0 → y j ≠ ⊥ → v j = v' j) : quot y v = quot y' v' := by
  obtain rfl : y = y' := funext hy
  unfold quot
  congr 1
  refine Finset.sum_congr rfl fun j _ => ?_
  by_cases hj : j = 0
  · simp [hj]
  · by_cases hb : y j = ⊥
    · have e (z : EReal) : Ideal.exp2 ((⊥ : EReal) - z) = 0 := by rw [EReal.bot_sub]; rfl
      rw [hb, e, zero_mul, zero_mul]
    · rw [if_neg hj, if_neg hj, h j hj hb]

variable (m : (ℓ : Loc nD τ sig) → Buf (Elt Ideal) ℓ)

theorem tN (t : Fin cfg0.N) : t.val < 16 := Nat.lt_of_lt_of_eq t.isLt (by decide)

theorem coords_val : ∀ t : Fin cfg0.N, (grid0.coords t 0).val = t.val / 8 ∧ (grid0.coords t 1).val = t.val % 8 := by decide +kernel

theorem idx : ∀ t : Fin cfg0.N, win0_0.index t = ![0] ∧ win0_1.index t = ![t.val, 0] ∧ win0_2.index t = ![8 * t.val - min (t.val % 8) 1, 4] ∧ win0_3.index t = ![t.val, 4]
    ∧ win0_4.index t = ![8 * t.val - min (t.val % 8) 1, 5] ∧ win0_5.index t = ![t.val, 5] ∧ win0_6.index t = ![t.val, 0] := by decide +kernel

/-- The packed projections and the sinks, as the launch finds them. -/
def projs (c : Dev nD) (n : Fin 16384) (l : Fin 768) : EReal := m ((c : Thread nD τ).loc main_arg0) (ix2 n l)
def sinks (c : Dev nD) (e : Fin 8) : EReal := m ((c : Thread nD τ).loc main_arg1) (ix1 e)

variable (c : Dev nD) (t : Fin cfg0.N)

theorem sinks_read (e : Fin 8) : iblk m c 0 t (ix1 e) = sinks m c e := by
  unfold sinks
  blk_ext [iblk, V, idx t]

theorem q_read (r : Fin 1024) (l : Fin 512) : X0_1 m c t (ix2 r l) = projs m c ⟨1024 * t.val + r.val, by have := tN t; omega⟩ ⟨l.val, by omega⟩ := by
  unfold projs
  unfold X0_1 Pipeline.Window.fill
  rw [dif_pos (moved0_1 t _)]
  blk_ext [iblk, V, idx t]

theorem k_read (r : Fin 1024) (l : Fin 128) : iblk m c 3 t (ix2 r l) = projs m c ⟨1024 * t.val + r.val, by have := tN t; omega⟩ ⟨512 + l.val, by omega⟩ := by
  unfold projs
  blk_ext [iblk, V, idx t]

theorem kp_read (r : Fin 128) (l : Fin 128) : iblk m c 2 t (ix2 r l) = projs m c ⟨1024 * t.val - 128 * min (t.val % 8) 1 + r.val, by have := tN t; omega⟩ ⟨512 + l.val, by omega⟩ := by
  unfold projs
  blk_ext [iblk, V, idx t]

theorem v_read (r : Fin 1024) (l : Fin 128) : iblk m c 5 t (ix2 r l) = projs m c ⟨1024 * t.val + r.val, by have := tN t; omega⟩ ⟨640 + l.val, by omega⟩ := by
  unfold projs
  blk_ext [iblk, V, idx t]

theorem vp_read (r : Fin 128) (l : Fin 128) : iblk m c 4 t (ix2 r l) = projs m c ⟨1024 * t.val - 128 * min (t.val % 8) 1 + r.val, by have := tN t; omega⟩ ⟨640 + l.val, by omega⟩ := by
  unfold projs
  blk_ext [iblk, V, idx t]

/-- A token's output at a lane of the 512. -/
def attnAt (P : Fin 16384 → Fin 768 → EReal) (S : Fin 8 → EReal) (n : Fin 16384) (l : Fin 512) : EReal :=
  attn P S n ⟨l.val / 256, by omega⟩ ⟨l.val / 64 % 4, by omega⟩ ⟨l.val % 64, by omega⟩

/-- The block's entries are the tokens' outputs. -/
theorem entry_eq (y0 : Fin 1024) (y1 : Fin 512) :
    entryAt ⟨(grid0.coords t 1).val, (grid0.coords t 1).isLt⟩ (fun e => iblk m c 0 t (ix1 e)) (fun r l => X0_1 m c t (ix2 r l))
      (heads (iblk m c 2 t) (iblk m c 3 t)) (heads (iblk m c 4 t) (iblk m c 5 t)) y0 y1
      = attnAt (projs m c) (sinks m c) ⟨1024 * t.val + y0.val, by have := tN t; omega⟩ y1 := by
  have ht := tN t
  have hc := (coords_val t).2
  have hrow (o : ℕ) (ho : o + 128 ≤ 768) (a : Vec Ideal S128x128 .f32) (b : Vec Ideal S1024x128 .f32)
      (ha : ∀ r l, a (ix2 r l) = projs m c ⟨1024 * t.val - 128 * min (t.val % 8) 1 + r.val, by omega⟩ ⟨o + l.val, by omega⟩)
      (hb : ∀ r l, b (ix2 r l) = projs m c ⟨1024 * t.val + r.val, by omega⟩ ⟨o + l.val, by omega⟩) (g : Fin 2) (j : Fin 256) (d : Fin 64)
      (hj : live ⟨1024 * t.val + y0.val, by omega⟩ j) :
      heads a b g ⟨128 * (y0.val / 128) + j.val, by omega⟩ d = slot (projs m c) ⟨1024 * t.val + y0.val, by omega⟩ j ⟨o + 64 * g.val + d.val, by omega⟩ := by
    have hj3 := hj.2.2
    rw [slot, dif_neg (by intro h; have := hj3 h.1; omega)]
    unfold heads head rows
    simp only at hj3
    by_cases h : 128 * (y0.val / 128) + j.val < 128
    · rw [dif_pos h, ha]
      congr 1 <;> exact Fin.ext (by simp only; omega)
    · rw [dif_neg h, hb]
      congr 1 <;> exact Fin.ext (by simp only; omega)
  have hband (j : Fin 256) : band ⟨(grid0.coords t 1).val, (grid0.coords t 1).isLt⟩ ⟨y0.val / 128, by omega⟩ ⟨y0.val % 128, by omega⟩ j
      ↔ live ⟨1024 * t.val + y0.val, by omega⟩ j := by
    unfold band live
    simp only [hc]
    constructor <;> rintro ⟨h1, h2, h3⟩ <;> exact ⟨by omega, by omega, by omega⟩
  unfold entryAt entry attnAt attn
  refine quot_congr _ _ _ _ (fun j => ?_) fun j hj hy => ?_
  · by_cases hl : live ⟨1024 * t.val + y0.val, by omega⟩ j
    · rw [if_pos ((hband j).2 hl), if_pos hl]
      refine Finset.sum_congr rfl fun d _ => ?_
      beta_reduce
      rw [hrow 512 (by omega) _ _ (fun r l => kp_read m c t r l) (fun r l => k_read m c t r l) _ j d hl, q_read]
      congr 3 <;> exact Fin.ext (by simp only; omega)
    · beta_reduce
      rw [if_neg (mt (hband j).1 hl), if_neg hl, sinks_read]
  · have hl : live ⟨1024 * t.val + y0.val, by omega⟩ j := by
      by_contra hl
      rw [if_neg (mt (hband j).1 hl), if_neg hj] at hy
      exact hy rfl
    exact hrow 640 (by omega) _ _ (fun r l => vp_read m c t r l) (fun r l => v_read m c t r l) _ j _ hl

/-- The output array after the run. -/
theorem array : (dats m 0 c).arrAt 6 cfg0.N = fun i => attnAt (projs m c) (sinks m c) (i 0) (i 1) := by
  refine (dats m 0 c).arrAt_eq_of_covers 6 _ (by decide +kernel) fun t hf y => ?_
  have h0 : (y 0).val < 1024 := (y 0).isLt
  have h1 : (y 1).val < 512 := (y 1).isLt
  have e0 : ((cfg0.win 6).blk t).view.emb y 0 = (⟨1024 * t.val + (y 0).val, by have := tN t; omega⟩ : Fin 16384) := by
    refine Fin.ext ?_
    blk_simp [idx t]
    have := (idx t).2.2.2.2.2.2
    simp [this]; omega
  have e1 : ((cfg0.win 6).blk t).view.emb y 1 = (⟨(y 1).val, h1⟩ : Fin 512) := by
    refine Fin.ext ?_
    blk_simp [idx t]
  rw [show attnAt (projs m c) (sinks m c) (((cfg0.win 6).blk t).view.emb y 0) (((cfg0.win 6).blk t).view.emb y 1)
    = attnAt (projs m c) (sinks m c) ⟨1024 * t.val + (y 0).val, by have := tN t; omega⟩ ⟨(y 1).val, h1⟩ from congrArg₂ _ e0 e1]
  blk_simp
  rw [after0_6, outs_apply]
  exact entry_eq m c t ⟨(y 0).val, h0⟩ ⟨(y 1).val, h1⟩

end Cert.KernelIdeal.Attn
-- ==== Proof.AttnRef.lean ====
/- What the reference's attention computes: each entry a softmax over the window of 256 keys and the sink, weighting the window's values. -/
module

public import proofs.«01_k».proof.Proof.Gen.ReferenceIdeal.Read
public import proofs.«01_k».proof.Proof.AttnBand
public import proofs.«01_k».proof.Proof.AttnMath

@[expose] public section

set_option maxRecDepth 16384

noncomputable section

namespace Cert.ReferenceIdeal.Attn

open Cert.ReferenceIdeal Cert.ReferenceIdeal.Gen Cert.ReferenceIdeal.Read Cert.AttnMath Idealize.ShloMosaic Idealize.ShloMosaic.TcCoe Idealize.SL.Sem

variable (x0 : (⟨S16384x768, .f32⟩ : BufTy).Contents (Elt Ideal)) (x1 : (⟨S8, .f32⟩ : BufTy).Contents (Elt Ideal))

/-- The token of a batch, a block and a row. -/
def tok (b : Fin 2) (B : Fin 64) (r : Fin 128) : Fin 16384 := ⟨b.val * 8192 + (B.val * 128 + r.val), by omega⟩

/-- The packed projections. -/
def projs (n : Fin 16384) (l : Fin 768) : EReal := x0 (ix2 n l)

theorem sitofp_zero : (FloatOps.sitofp (F := Ideal) FTy.f32 (0#32) : EReal) = 0 := by
  show (((0#32 : BitVec 32).toInt : ℝ) : EReal) = 0
  simp

theorem slot_before (b : Fin 2) (B : Fin 64) (r : Fin 128) (s : Fin 256) (l : Fin 768) (h : s.val < 128) (h' : 1 ≤ B.val) :
    x0 (ix2 ⟨b.val * 8192 + ((B.val - 1) * 128 + s.val), by omega⟩ l) = slot (projs x0) (tok b B r) s l := by
  unfold slot projs tok
  rw [dif_neg (by simp only; omega)]; congr 2; exact Fin.ext (by simp only; omega)

theorem slot_none (b : Fin 2) (B : Fin 64) (r : Fin 128) (s : Fin 256) (l : Fin 768) (h : s.val < 128) (h' : ¬ 1 ≤ B.val) :
    0 = slot (projs x0) (tok b B r) s l := by
  unfold slot projs tok
  rw [dif_pos (by simp only; omega)]

theorem slot_own (b : Fin 2) (B : Fin 64) (r : Fin 128) (s : Fin 256) (l : Fin 768) (h : ¬ s.val < 128) :
    x0 (ix2 ⟨b.val * 8192 + (B.val * 128 + (s.val - 128)), by omega⟩ l) = slot (projs x0) (tok b B r) s l := by
  unfold slot projs tok
  rw [dif_neg (by simp only; omega)]; congr 2; exact Fin.ext (by simp only; omega)

theorem keys_apply (b : Fin 2) (B : Fin 64) (r : Fin 128) (s : Fin 256) (g : Fin 2) (d : Fin 64) :
    val_main_v9 (F := Ideal) x0 (ix5 b B s g d) = slot (projs x0) (tok b B r) s ⟨512 + 64 * g.val + d.val, by omega⟩ := by
  pointwise [val_main_v9, val_main_v8, val_main_v7, val_main_v5, val_main_v2, val_main_v0, val_main_call0_v0, val_main_c]
  have e : (⟨512 + (g.val * 64 + d.val), by omega⟩ : Fin 768) = ⟨512 + 64 * g.val + d.val, by omega⟩ := Fin.ext (by simp only; omega)
  simp only [e]
  by_cases h : s.val < 128
  · by_cases h' : 1 ≤ B.val
    · exact (dif_pos h).trans ((dif_pos ⟨⟨h', by omega⟩, h⟩).trans (slot_before x0 b B r s _ h h'))
    · exact (dif_pos h).trans ((dif_neg (fun h2 => h' h2.1.1)).trans (sitofp_zero.trans (slot_none x0 b B r s _ h h')))
  · exact (dif_neg h).trans (slot_own x0 b B r s _ h)

theorem values_apply (b : Fin 2) (B : Fin 64) (r : Fin 128) (s : Fin 256) (g : Fin 2) (d : Fin 64) :
    val_main_v12 (F := Ideal) x0 (ix5 b B s g d) = slot (projs x0) (tok b B r) s ⟨640 + 64 * g.val + d.val, by omega⟩ := by
  pointwise [val_main_v12, val_main_v11, val_main_v10, val_main_v6, val_main_v3, val_main_v0, val_main_call1_v0, val_main_c_0]
  have e : (⟨640 + (g.val * 64 + d.val), by omega⟩ : Fin 768) = ⟨640 + 64 * g.val + d.val, by omega⟩ := Fin.ext (by simp only; omega)
  simp only [e]
  by_cases h : s.val < 128
  · by_cases h' : 1 ≤ B.val
    · exact (dif_pos h).trans ((dif_pos ⟨⟨h', by omega⟩, h⟩).trans (slot_before x0 b B r s _ h h'))
    · exact (dif_pos h).trans ((dif_neg (fun h2 => h' h2.1.1)).trans (sitofp_zero.trans (slot_none x0 b B r s _ h h')))
  · exact (dif_neg h).trans (slot_own x0 b B r s _ h)

theorem queries_apply (b : Fin 2) (B : Fin 64) (r : Fin 128) (g : Fin 2) (e : Fin 4) (d : Fin 64) :
    val_main_v4 (F := Ideal) x0 (ix6 b B r g e d) = projs x0 (tok b B r) ⟨256 * g.val + 64 * e.val + d.val, by omega⟩ := by
  pointwise [val_main_v4, val_main_v1, val_main_v0]
  unfold projs tok
  congr 2; exact Fin.ext (by simp only; omega)

/-- An eighth, the scale of the scores. -/
theorem ofBits_eighth : Ideal.ofBits FTy.f32 0x3E000000#32 = ((1 / 8 : ℝ) : EReal) := by
  simp [Ideal.ofBits, Ideal.ieee, -EReal.coe_mul]; norm_num

theorem scores_apply (b : Fin 2) (B : Fin 64) (r : Fin 128) (s : Fin 256) (g : Fin 2) (e : Fin 4) :
    val_main_v16 (F := Ideal) x0 (ix6 b B g e r s)
      = (∑ d : Fin 64, slot (projs x0) (tok b B r) s ⟨512 + 64 * g.val + d.val, by omega⟩ * projs x0 (tok b B r) ⟨256 * g.val + 64 * e.val + d.val, by omega⟩) * ((1 / 8 : ℝ) : EReal) := by
  pointwise [val_main_v16, val_main_v15, val_main_v14, val_main_v13, val_main_cst]
  rw [ofBits_eighth]
  simp only [queries_apply, keys_apply x0 b B r]

theorem gt_zero (B : Fin 64) : IntOp.cmpi .sgt (BitVec.ofNat 32 B.val) 0#32 = if 0 < B.val then 1#1 else 0#1 := by
  revert B; decide +kernel

theorem live_apply (b : Fin 2) (B : Fin 64) (r : Fin 128) (s : Fin 256) :
    val_main_v44 (F := Ideal) (ix3 B r s) = if live (tok b B r) s then 1#1 else 0#1 := by
  have h30 : val_main_v30 (F := Ideal) (ix2 r s) = if s.val ≤ r.val + 128 ∧ r.val < s.val then 1#1 else 0#1 := by
    rw [← Cert.KernelIdeal.Attn.pay15_apply r s]
    pointwise [val_main_v30, val_main_v29, val_main_v28, val_main_v27, val_main_v26, val_main_v25, val_main_v24, val_main_v23, val_main_v22, val_main_v21, val_main_v20, val_main_v19, val_main_v18, val_main_v17, val_main_c_1, val_main_c_2, val_main_c_3, Cert.KernelIdeal.Gen.k0_pay15]
  pointwise [val_main_v44, val_main_v43, val_main_v42, val_main_v41, val_main_v40, val_main_v39, val_main_v38, val_main_v37, val_main_v36, val_main_v35, val_main_v34, val_main_v33, val_main_v32, val_main_v31, val_main_c_4, val_main_c_5, val_main_v20, val_main_v19]
  rw [h30, gt_zero, Cert.KernelIdeal.Attn.later 128 s.val s.isLt (by omega)]
  have hl : live (tok b B r) s ↔ (s.val ≤ r.val + 128 ∧ r.val < s.val) ∧ (0 < B.val ∨ 128 ≤ s.val) := by
    unfold live tok
    simp only
    constructor
    · rintro ⟨h1, h2, h3⟩; exact ⟨⟨by omega, by omega⟩, by omega⟩
    · rintro ⟨⟨h1, h2⟩, h3⟩; exact ⟨by omega, by omega, by omega⟩
  rw [if_congr hl rfl rfl]
  by_cases h1 : s.val ≤ r.val + 128 ∧ r.val < s.val <;> by_cases h2 : 0 < B.val <;> by_cases h3 : 128 ≤ s.val <;> simp [h1, h2, h3, IntOp.andi, IntOp.ori]

/-- The scores of a token's head over its window, then the sink's. -/
def logits (n : Fin 16384) (g : Fin 2) (e : Fin 4) (s : Fin 257) : EReal :=
  if h : s.val < 256 then
    if live n ⟨s.val, h⟩ then (∑ d : Fin 64, slot (projs x0) n ⟨s.val, h⟩ ⟨512 + 64 * g.val + d.val, by omega⟩ * projs x0 n ⟨256 * g.val + 64 * e.val + d.val, by omega⟩) * ((1 / 8 : ℝ) : EReal) else ⊥
  else x1 (ix1 ⟨4 * g.val + e.val, by omega⟩)

theorem masked_apply (b : Fin 2) (B : Fin 64) (r : Fin 128) (s : Fin 256) (g : Fin 2) (e : Fin 4) :
    val_main_v46 (F := Ideal) x0 (ix6 b B g e r s) = if live (tok b B r) s then (∑ d : Fin 64, slot (projs x0) (tok b B r) s ⟨512 + 64 * g.val + d.val, by omega⟩ * projs x0 (tok b B r) ⟨256 * g.val + 64 * e.val + d.val, by omega⟩) * ((1 / 8 : ℝ) : EReal) else ⊥ := by
  have hb : val_main_call2_v2 (F := Ideal) (ix6 b B g e r s) = (⊥ : EReal) := by
    pointwise [val_main_call2_v2]
    exact Cert.KernelIdeal.Attn.ofBits_negInf
  pointwise [val_main_v46, val_main_call2_v1, val_main_v45]
  rw [hb, scores_apply, live_apply b]
  by_cases h : live (tok b B r) s <;> simp [h, Scalar.select]

theorem logits_apply (b : Fin 2) (B : Fin 64) (r : Fin 128) (s : Fin 257) (g : Fin 2) (e : Fin 4) :
    val_main_v49 (F := Ideal) x0 x1 (ix6 b B g e r s) = logits x0 x1 (tok b B r) g e s := by
  pointwise [val_main_v49, val_main_v48, val_main_v47]
  unfold logits
  by_cases h : s.val < 256
  · rw [dif_pos h, dif_pos h, masked_apply]
  · rw [dif_neg h, dif_neg h]; congr 2; exact Fin.ext (by simp only; omega)

/-- The greatest score of a token's head over its window and the sink. -/
def top (n : Fin 16384) (g : Fin 2) (e : Fin 4) : EReal := max ⊥ (Finset.univ.fold max ⊥ (logits x0 x1 n g e))

theorem top_apply (b : Fin 2) (B : Fin 64) (r : Fin 128) (g : Fin 2) (e : Fin 4) :
    val_main_v52 (F := Ideal) x0 x1 (ix5 b B g e r) = top x0 x1 (tok b B r) g e := by
  have h51 : val_main_v51 (F := Ideal) (ix5 b B g e r) = (⊥ : EReal) := Cert.KernelIdeal.Attn.ofBits_negInf
  have h7 : val_main_cst_7 (F := Ideal) (Shape.Idx.first h_S_) = (⊥ : EReal) := Cert.KernelIdeal.Attn.ofBits_negInf
  have h50 : val_main_v50 (F := Ideal) x0 x1 (ix5 b B g e r) = Finset.univ.fold max ⊥ (logits x0 x1 (tok b B r) g e) := by
    unfold val_main_v50
    have hl := fun s => logits_apply x0 x1 b B r s g e
    revert hl h7
    generalize val_main_v49 (F := Ideal) x0 x1 = y
    generalize val_main_cst_7 (F := Ideal) = z
    intro h7 hl
    refine (Host.reduce_eq_fold_single (FloatOps.maximumf (F := Ideal) (φ := .f32)) y z reducesTo_S2x64x2x4x128x257_S2x64x2x4x128_d5 (by decide) h_S_ _).trans ?_
    rw [h7]
    refine congrArg (fun f => Finset.fold max (⊥ : EReal) f (Finset.univ : Finset (Fin 257))) (funext fun s => ?_)
    rw [← hl s]
    exact congrArg y (funext fun a => Fin.ext (by match a with | ⟨0, _⟩ => rfl | ⟨1, _⟩ => rfl | ⟨2, _⟩ => rfl | ⟨3, _⟩ => rfl | ⟨4, _⟩ => rfl | ⟨5, _⟩ => rfl))
  rw [val_main_v52_apply, h51, h50]
  rfl

theorem weight_apply (b : Fin 2) (B : Fin 64) (r : Fin 128) (s : Fin 257) (g : Fin 2) (e : Fin 4) :
    val_main_v56 (F := Ideal) x0 x1 (ix6 b B g e r s) = Ideal.exp (logits x0 x1 (tok b B r) g e s - top x0 x1 (tok b B r) g e) := by
  rw [← logits_apply, ← top_apply]
  pointwise [val_main_v56, val_main_v55, val_main_v54, val_main_v53]

theorem total_apply (b : Fin 2) (B : Fin 64) (r : Fin 128) (g : Fin 2) (e : Fin 4) :
    val_main_v57 (F := Ideal) x0 x1 (ix5 b B g e r)
      = 0 + ∑ s : Fin 257, Ideal.exp (logits x0 x1 (tok b B r) g e s - top x0 x1 (tok b B r) g e) := by
  rw [val_main_v57_apply]
  have h9 : val_main_cst_9 (F := Ideal) (Shape.Idx.first h_S_) = (0 : EReal) := Ideal.ofBits_zero_f32
  rw [h9]
  refine congrArg (0 + ·) (Finset.sum_congr rfl fun s _ => ?_)
  rw [← weight_apply]
  exact congrArg (val_main_v56 (F := Ideal) x0 x1) (funext fun a => Fin.ext (by match a with | ⟨0, _⟩ => rfl | ⟨1, _⟩ => rfl | ⟨2, _⟩ => rfl | ⟨3, _⟩ => rfl | ⟨4, _⟩ => rfl | ⟨5, _⟩ => rfl))

theorem share_apply (b : Fin 2) (B : Fin 64) (r : Fin 128) (s : Fin 256) (g : Fin 2) (e : Fin 4) :
    val_main_v61 (F := Ideal) x0 x1 (ix6 b B g e r s)
      = Ideal.div (Ideal.exp (logits x0 x1 (tok b B r) g e s.castSucc - top x0 x1 (tok b B r) g e))
          (0 + ∑ i : Fin 257, Ideal.exp (logits x0 x1 (tok b B r) g e i - top x0 x1 (tok b B r) g e)) := by
  rw [← total_apply, ← weight_apply]
  pointwise [val_main_v61, val_main_v60, val_main_v59, val_main_v58]
  rfl

/-- The reference's attention at a token's lane: the window's values, each with its share of the softmax. -/
theorem attn_apply (b : Fin 2) (B : Fin 64) (r : Fin 128) (g : Fin 2) (e : Fin 4) (d : Fin 64) :
    val_main_v63 (F := Ideal) x0 x1 (ix6 b B r g e d)
      = ∑ s : Fin 256, slot (projs x0) (tok b B r) s ⟨640 + 64 * g.val + d.val, by omega⟩
          * Ideal.div (Ideal.exp (logits x0 x1 (tok b B r) g e s.castSucc - top x0 x1 (tok b B r) g e))
              (0 + ∑ i : Fin 257, Ideal.exp (logits x0 x1 (tok b B r) g e i - top x0 x1 (tok b B r) g e)) := by
  pointwise [val_main_v63, val_main_v62]
  simp only [values_apply x0 b B r, share_apply, zero_add]

end Cert.ReferenceIdeal.Attn

end
-- ==== Proof.PreFinite.lean ====
/- The precondition: every entry of the packed projections and every sink is a real number. -/
module

public import proofs.«01_k».proof.Proof.Gen.Pre_finite
public import Idealize.ShloMosaic.Lib.Affine
public import Idealize.ShloMosaic.Lib.Decide
public import Idealize.ShloMosaic.Lib.Pointwise.Tactic
public import Idealize.ShloMosaic.Lib.Pipeline.Value

@[expose] public section

set_option maxRecDepth 16384

noncomputable section

namespace Cert.Pre_finite

open Idealize.ShloMosaic

/-- An extended real whose absolute value is below infinity is real. -/
theorem real_of_abs (x : EReal) (h : FloatOps.cmpf (F := Ideal) (φ := .f32) .olt (FloatOps.absf (F := Ideal) (φ := .f32) x) (Ideal.ofBits .f32 0x7F800000#32) = 1#1) : ∃ y : ℝ, x = y := by
  have ht : Ideal.ofBits .f32 0x7F800000#32 = ⊤ := by rw [Ideal.ofBits]; decide +kernel
  rw [ht] at h
  have hx : max x (-x) < ⊤ := by
    by_contra hn
    have : FloatOps.cmpf (F := Ideal) (φ := .f32) .olt (FloatOps.absf (F := Ideal) (φ := .f32) x) ⊤ = 0#1 := by
      show BitVec.ofBool (decide (max x (-x) < ⊤)) = 0#1
      simp only [hn, decide_false]; rfl
    rw [this] at h
    exact absurd h (by decide)
  induction x with
  | bot => simp at hx
  | top => simp at hx
  | coe y => exact ⟨y, rfl⟩

theorem both (a b : BitVec 1) (h : IntOp.andi a b = 1#1) : a = 1#1 ∧ b = 1#1 := by revert a b; decide

/-- Under the precondition every projection is real. -/
theorem projs_real (a0 : FVec Ideal S16384x768 .f32) (a1 : FVec Ideal S8 .f32) (h : fn (F := Ideal) a0 a1 = fun _ => 1#1) (n : Fin 16384) (l : Fin 768) :
    ∃ y : ℝ, (a0 (ix2 n l) : EReal) = y := by
  have e := congrFun h (ix2 ⟨(n.val * 768 + l.val) / 8, by omega⟩ ⟨(n.val * 768 + l.val) % 8, by omega⟩)
  pointwise [fn] at e
  refine real_of_abs _ ((congrArg (fun z => FloatOps.cmpf (F := Ideal) (φ := .f32) .olt z (Ideal.ofBits .f32 0x7F800000#32)) ?_).trans (both _ _ e).1)
  refine (shapeCast_apply (Host.absf a0) _ _ (ix2 n l) ?_).symm
  rw [Shape.rowMajor_val_two, Shape.rowMajor_val_two]
  show n.val * 768 + l.val = (n.val * 768 + l.val) / 8 * 8 + (n.val * 768 + l.val) % 8
  omega

/-- Under the precondition every sink is real. -/
theorem sinks_real (a0 : FVec Ideal S16384x768 .f32) (a1 : FVec Ideal S8 .f32) (h : fn (F := Ideal) a0 a1 = fun _ => 1#1) (q : Fin 8) :
    ∃ y : ℝ, (a1 (ix1 q) : EReal) = y := by
  have e := congrFun h (ix2 0 q)
  pointwise [fn] at e
  exact real_of_abs _ (both _ _ e).2

end Cert.Pre_finite

end
-- ==== Proof.AttnEq.lean ====
/- The attention claim: where every projection and every sink is real, the kernel's output array is the reference's. -/
module

public import proofs.«01_k».proof.Defs
public import proofs.«01_k».proof.Proof.AttnArray
public import proofs.«01_k».proof.Proof.AttnRef
public import proofs.«01_k».proof.Proof.PreFinite
public import proofs.«01_k».proof.Proof.Gen.KernelIdeal
public import proofs.«01_k».proof.Proof.Gen.ReferenceIdeal
public import proofs.«01_k».proof.Proof.Gen.KernelIdeal.Value
public import proofs.«01_k».proof.Proof.Gen.ReferenceIdeal.Run

@[expose] public section

set_option maxRecDepth 16384

noncomputable section

namespace Cert.AttnEq

open Cert.AttnMath Idealize.ShloMosaic Idealize.ShloMosaic.TcCoe Idealize.SL.Sem

/-- A real slot of the window. -/
theorem slot_coe (p : Fin 16384 → Fin 768 → ℝ) (n : Fin 16384) (j : Fin 256) (l : Fin 768) :
    ∃ y : ℝ, slot (fun n l => (p n l : EReal)) n j l = y := by
  unfold slot
  split
  · exact ⟨0, EReal.coe_zero.symm⟩
  · exact ⟨_, rfl⟩

/-- The two forms of a token's attention agree on real arguments. -/
theorem attn_eq (P : Fin 16384 → Fin 768 → EReal) (S : Fin 8 → EReal) (hP : ∀ n l, ∃ y : ℝ, P n l = y) (hS : ∀ e, ∃ y : ℝ, S e = y)
    (n : Fin 16384) (g : Fin 2) (e : Fin 4) (d : Fin 64) (x : Fin 257 → EReal)
    (hx : ∀ j : Fin 256, x j.castSucc = if live n j then (∑ d : Fin 64, slot P n j ⟨512 + 64 * g.val + d.val, by omega⟩ * P n ⟨256 * g.val + 64 * e.val + d.val, by omega⟩) * ((1 / 8 : ℝ) : EReal) else ⊥)
    (hs : x (Fin.last 256) = S ⟨4 * g.val + e.val, by omega⟩) :
    Cert.KernelIdeal.Attn.attn P S n g e d
      = ∑ j : Fin 256, slot P n j ⟨640 + 64 * g.val + d.val, by omega⟩ * Ideal.div (Ideal.exp (x j.castSucc - max ⊥ (Finset.univ.fold max ⊥ x)))
          (0 + ∑ i, Ideal.exp (x i - max ⊥ (Finset.univ.fold max ⊥ x))) := by
  choose p hp using hP
  choose s hs' using hS
  obtain rfl : P = fun n l => (p n l : EReal) := funext fun n => funext fun l => hp n l
  obtain rfl : S = fun e => (s e : EReal) := funext hs'
  choose k hk using slot_coe p n
  have h0 : ¬ live n 0 := fun h => absurd h.2.1 (by simp)
  have he := softmax_eq (live n) h0 (fun j => (∑ d : Fin 64, k j ⟨512 + 64 * g.val + d.val, by omega⟩ * p n ⟨256 * g.val + 64 * e.val + d.val, by omega⟩) * (1 / 8))
    (s ⟨4 * g.val + e.val, by omega⟩) (fun j => k j ⟨640 + 64 * g.val + d.val, by omega⟩) _ (fun j => rfl) x
    (fun j => by
      rw [hx]
      refine if_congr Iff.rfl ?_ rfl
      rw [EReal.coe_mul, coe_sum]
      refine congrArg (· * _) (Finset.sum_congr rfl fun d _ => ?_)
      rw [hk, EReal.coe_mul])
    hs
  simp only [hk]
  rw [← he]
  unfold Cert.KernelIdeal.Attn.attn
  unfold Cert.KernelIdeal.Attn.quot
  have hy : (fun j : Fin 256 => if live n j then
      ∑ d : Fin 64, (p n ⟨256 * g.val + 64 * e.val + d.val, by omega⟩ : EReal) * Cert.KernelIdeal.Attn.qs * slot (fun n l => (p n l : EReal)) n j ⟨512 + 64 * g.val + d.val, by omega⟩
      else if j = 0 then (s ⟨4 * g.val + e.val, by omega⟩ : EReal) * Cert.KernelIdeal.Attn.ln else ⊥)
      = fun j => if live n j then (((∑ d : Fin 64, k j ⟨512 + 64 * g.val + d.val, by omega⟩ * p n ⟨256 * g.val + 64 * e.val + d.val, by omega⟩) * (1 / 8) * (Real.log 2)⁻¹ : ℝ) : EReal)
        else if j = 0 then ((s ⟨4 * g.val + e.val, by omega⟩ * (Real.log 2)⁻¹ : ℝ) : EReal) else ⊥ := by
    funext j
    refine if_congr Iff.rfl ?_ (if_congr Iff.rfl (EReal.coe_mul _ _).symm rfl)
    rw [mul_assoc, Finset.sum_mul, coe_sum]
    refine Finset.sum_congr rfl fun d _ => ?_
    rw [hk, Cert.KernelIdeal.Attn.qs, ← EReal.coe_mul, ← EReal.coe_mul]
    congr 1; ring
  rw [hy]
  simp only [hk]

/-- The reference's result at a token and a lane. -/
theorem ref_apply (x0 : (⟨Cert.ReferenceIdeal.S16384x768, .f32⟩ : BufTy).Contents (Elt Ideal)) (x1 : (⟨Cert.ReferenceIdeal.S8, .f32⟩ : BufTy).Contents (Elt Ideal))
    (n : Fin 16384) (l : Fin 512) :
    Cert.ReferenceIdeal.Read.val_main_v65 (F := Ideal) x0 x1 (ix2 n l)
      = Cert.ReferenceIdeal.Read.val_main_v63 (F := Ideal) x0 x1 (ix6 ⟨n.val / 8192, by omega⟩ ⟨n.val / 128 % 64, by omega⟩ ⟨n.val % 128, by omega⟩ ⟨l.val / 256, by omega⟩ ⟨l.val / 64 % 4, by omega⟩ ⟨l.val % 64, by omega⟩) := by
  pointwise [Cert.ReferenceIdeal.Read.val_main_v65, Cert.ReferenceIdeal.Read.val_main_v64]

/-- From real projections and sinks, both programs end with the same array. -/
theorem result_eq (x0 : (⟨Cert.ReferenceIdeal.S16384x768, .f32⟩ : BufTy).Contents (Elt Ideal)) (x1 : (⟨Cert.ReferenceIdeal.S8, .f32⟩ : BufTy).Contents (Elt Ideal))
    (h : Cert.Pre_finite.fn (F := Ideal) x0 x1 = fun _ => 1#1) (n : Fin 16384) (l : Fin 512) :
    Cert.KernelIdeal.Attn.attnAt (fun n l => x0 (ix2 n l)) (fun e => x1 (ix1 e)) n l = Cert.ReferenceIdeal.Read.val_main_v65 (F := Ideal) x0 x1 (ix2 n l) := by
  rw [ref_apply, Cert.ReferenceIdeal.Attn.attn_apply]
  have hn : Cert.ReferenceIdeal.Attn.tok ⟨n.val / 8192, by omega⟩ ⟨n.val / 128 % 64, by omega⟩ ⟨n.val % 128, by omega⟩ = n := by
    unfold Cert.ReferenceIdeal.Attn.tok
    exact Fin.ext (by simp only; omega)
  rw [hn]
  unfold Cert.KernelIdeal.Attn.attnAt
  refine attn_eq (fun n l => x0 (ix2 n l)) (fun e => x1 (ix1 e)) (Cert.Pre_finite.projs_real x0 x1 h) (Cert.Pre_finite.sinks_real x0 x1 h) n _ _ _
    (Cert.ReferenceIdeal.Attn.logits x0 x1 n _ _) (fun j => ?_) ?_
  · unfold Cert.ReferenceIdeal.Attn.logits
    rw [dif_pos (show (j.castSucc).val < 256 from j.isLt)]
    rfl
  · unfold Cert.ReferenceIdeal.Attn.logits
    rw [dif_neg (by simp)]

/-- The attention claim. -/
theorem algebraic : Cert.algebraic_KernelIdeal_ReferenceIdeal_pre_finite := by
  intro m g m' g' hpre hargs
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  rw [Cert.ReferenceIdeal.Read.val_main_v65_eq, (hargs c).1, (hargs c).2]
  refine Eq.trans ?_ (Cert.KernelIdeal.Attn.array m c).symm
  funext i
  have hi : i = ix2 (i 0) (i 1) := funext fun a => by match a with | ⟨0, _⟩ => rfl | ⟨1, _⟩ => rfl
  refine Eq.trans ?_ (result_eq _ _ (hpre c) (i 0) (i 1)).symm
  exact congrArg _ hi

end Cert.AttnEq

end
-- ==== Proof.FfnMath.lean ====
/- The feed-forward block as arithmetic on extended reals: a row's root-mean-square norm, the gated product of its two projections, and the
   projection back, also summed chunk by chunk. -/
module

public import Idealize.ShloMosaic.PureOps.Ideal
public import Idealize.ShloMosaic.PureOps.Ideal.Laws
public import Idealize.ShloMosaic.Lib.IdealHost

@[expose] public section

noncomputable section

namespace Cert.FfnMath

open Idealize.ShloMosaic

/-- A row over the root of its mean square, weighted. -/
def rms (v g : Fin 1024 → EReal) (k : Fin 1024) : EReal :=
  v k * Ideal.rsqrt (Ideal.div (∑ i, v i * v i) (Ideal.ofBits .f32 0x44800000#32) + Ideal.ofBits .f32 0x3727C5AC#32) * g k

/-- A row against a column of a matrix. -/
def proj {n : ℕ} (h : Fin 1024 → EReal) (w : Fin 1024 → Fin n → EReal) (c : Fin n) : EReal := ∑ k, h k * w k c

/-- A hidden unit: the gate times its logistic times the other projection. -/
def act (h : Fin 1024 → EReal) (wg wu : Fin 1024 → Fin 2816 → EReal) (c : Fin 2816) : EReal :=
  proj h wg c * Ideal.logistic (proj h wg c) * proj h wu c

/-- A unit's share of an output. -/
def term (h : Fin 1024 → EReal) (wg wu : Fin 1024 → Fin 2816 → EReal) (wd : Fin 2816 → Fin 1024 → EReal) (l : Fin 1024) (c : Fin 2816) : EReal :=
  act h wg wu c * wd c l

/-- The block with its residual: half of the projection back, added to the row. -/
def ffn (v g : Fin 1024 → EReal) (wg wu : Fin 1024 → Fin 2816 → EReal) (wd : Fin 2816 → Fin 1024 → EReal) (l : Fin 1024) : EReal :=
  v l + Ideal.ofBits .f32 0x3F000000#32 * ∑ c, term (rms v g) wg wu wd l c

/-- The share of the 256 units from `o` on. -/
def chunk (f : Fin 2816 → EReal) (o : ℕ) (ho : o + 256 ≤ 2816) : EReal := ∑ j : Fin 256, f ⟨o + j.val, by omega⟩

/-- The units chunk by chunk. -/
theorem sum_chunks (f : Fin 2816 → EReal) :
    ∑ c, f c = chunk f 0 (by omega) + chunk f 256 (by omega) + chunk f 512 (by omega) + chunk f 768 (by omega) + chunk f 1024 (by omega) + chunk f 1280 (by omega)
      + chunk f 1536 (by omega) + chunk f 1792 (by omega) + chunk f 2048 (by omega) + chunk f 2304 (by omega) + chunk f 2560 (by omega) := by
  have e : ∑ c, f c = ∑ p : Fin 11 × Fin 256, f ⟨256 * p.1.val + p.2.val, by omega⟩ :=
    (Fintype.sum_equiv (finProdFinEquiv (m := 11) (n := 256)) _ _ fun p => congrArg f (Fin.ext (by simp [finProdFinEquiv]; omega))).symm
  rw [e, Fintype.sum_prod_type, Fin.sum_univ_castSucc, Fin.sum_univ_castSucc, Fin.sum_univ_castSucc, Fin.sum_univ_eight]
  rfl

/-- `x · (1 / (1 + e⁻ˣ))` is `x` times its logistic. -/
theorem logistic_eq (x : EReal) : Ideal.logistic x = Ideal.div 1 (1 + Ideal.exp (-x)) := rfl

end Cert.FfnMath
-- ==== Proof.FfnBlock.lean ====
/- What the feed-forward kernel's body leaves in its output block at one grid point: each row through the block, its hidden units summed 256 at a time. -/
module

public import proofs.«01_k».proof.Proof.FfnMath
public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Ffn

open Cert.FfnIdeal Cert.FfnIdeal.Gen Cert.FfnMath Idealize.ShloMosaic Idealize.ShloMosaic.TcCoe Idealize.SL.Sem

section Steps
variable (acc : Vec Ideal S512x1024 .f32) (h : Vec Ideal S512x1024 .bf16) (U V : Vec Ideal S1024x2816 .f32) (D : Vec Ideal S2816x1024 .f32)
  (o : ℕ) (ho : o + 256 ≤ 2816) (iu : ∀ a, ![0, o] a + ![1024, 256] a ≤ S1024x2816.size a) (id : ∀ a, ![o, 0] a + ![256, 1024] a ≤ S2816x1024.size a) (r : Fin 512) (l : Fin 1024)

/-- The shares of the hidden units of row `r` in lane `l`. -/
def terms (c : Fin 2816) : EReal := term (fun k => h (ix2 r k)) (fun k c => U (ix2 k c)) (fun k c => V (ix2 k c)) (fun c l => D (ix2 c l)) l c

theorem ld_cols (X : Vec Ideal S1024x2816 .f32) (k : Fin 1024) (j : Fin 256) :
    View.ld X (Rect.unit ![0, o] ![1024, 256] iu) (ix2 k j) = X (ix2 k ⟨o + j.val, by omega⟩) :=
  View.ld_unit_apply_of X _ _ _ _ _ fun a => by fin_cases a <;> simp

theorem ld_rows (j : Fin 256) :
    View.ld D (Rect.unit ![o, 0] ![256, 1024] id) (ix2 j l) = D (ix2 ⟨o + j.val, by omega⟩ l) :=
  View.ld_unit_apply_of D _ _ _ _ _ fun a => by fin_cases a <;> simp

theorem pay4_apply (u v : Vec Ideal S1024x256 .f32) (d : Vec Ideal S256x1024 .f32) :
    k0_pay4 acc h u v d (ix2 r l) = acc (ix2 r l) + ∑ j : Fin 256, proj (fun k => h (ix2 r k)) (fun k (c : Fin 256) => u (ix2 k c)) j
      * Ideal.logistic (proj (fun k => h (ix2 r k)) (fun k (c : Fin 256) => u (ix2 k c)) j) * proj (fun k => h (ix2 r k)) (fun k (c : Fin 256) => v (ix2 k c)) j * d (ix2 j l) := by
  pointwise [k0_pay4]
  rfl

/-- One step adds the share of 256 hidden units. -/
theorem step_apply : k0_pay4 acc h (View.ld U (Rect.unit ![0, o] ![1024, 256] iu)) (View.ld V (Rect.unit ![0, o] ![1024, 256] iu)) (View.ld D (Rect.unit ![o, 0] ![256, 1024] id)) (ix2 r l)
    = acc (ix2 r l) + chunk (terms h U V D r l) o ho := by
  rw [pay4_apply]
  refine congrArg (acc (ix2 r l) + ·) (Finset.sum_congr rfl fun j _ => ?_)
  have e (X : Vec Ideal S1024x2816 .f32) : proj (fun k => h (ix2 r k)) (fun k (c : Fin 256) => View.ld X (Rect.unit ![0, o] ![1024, 256] iu) (ix2 k c)) j
      = proj (fun k => h (ix2 r k)) (fun k c => X (ix2 k c)) ⟨o + j.val, by omega⟩ :=
    Finset.sum_congr rfl fun k _ => congrArg (h (ix2 r k) * ·) (ld_cols o ho iu X k j)
  beta_reduce
  rw [e, e, ld_rows D o ho]
  rfl

/-- The first step stores that share. -/
theorem first_apply (i0 : ∀ a, ![0, 0] a + ![1024, 256] a ≤ S1024x2816.size a) (j0 : ∀ a, ![0, 0] a + ![256, 1024] a ≤ S2816x1024.size a) :
    k0_pay3 h (View.ld U (Rect.unit ![0, 0] ![1024, 256] i0)) (View.ld V (Rect.unit ![0, 0] ![1024, 256] i0)) (View.ld D (Rect.unit ![0, 0] ![256, 1024] j0)) (ix2 r l)
    = chunk (terms h U V D r l) 0 (by decide) := by
  have e := step_apply (fun _ => (0 : EReal)) h U V D 0 (by omega) i0 j0 r l
  rw [zero_add] at e
  refine Eq.trans ?_ e
  pointwise [k0_pay3, k0_pay4]

/-- The eleven steps, from the first. -/
def steps : Vec Ideal S512x1024 .f32 :=
  let step (acc : Vec Ideal S512x1024 .f32) (o : ℕ) (iu : ∀ a, ![0, o] a + ![1024, 256] a ≤ S1024x2816.size a) (id : ∀ a, ![o, 0] a + ![256, 1024] a ≤ S2816x1024.size a) :=
    k0_pay4 acc h (View.ld U (Rect.unit ![0, o] ![1024, 256] iu)) (View.ld V (Rect.unit ![0, o] ![1024, 256] iu)) (View.ld D (Rect.unit ![o, 0] ![256, 1024] id))
  let s0 := k0_pay3 h (View.ld U (Rect.unit ![0, 0] ![1024, 256] inb_S1024x2816_S1024x256_0_0)) (View.ld V (Rect.unit ![0, 0] ![1024, 256] inb_S1024x2816_S1024x256_0_0)) (View.ld D (Rect.unit ![0, 0] ![256, 1024] inb_S2816x1024_S256x1024_0_0))
  let s1 := step s0 256 inb_S1024x2816_S1024x256_0_256 inb_S2816x1024_S256x1024_256_0
  let s2 := step s1 512 inb_S1024x2816_S1024x256_0_512 inb_S2816x1024_S256x1024_512_0
  let s3 := step s2 768 inb_S1024x2816_S1024x256_0_768 inb_S2816x1024_S256x1024_768_0
  let s4 := step s3 1024 inb_S1024x2816_S1024x256_0_1024 inb_S2816x1024_S256x1024_1024_0
  let s5 := step s4 1280 inb_S1024x2816_S1024x256_0_1280 inb_S2816x1024_S256x1024_1280_0
  let s6 := step s5 1536 inb_S1024x2816_S1024x256_0_1536 inb_S2816x1024_S256x1024_1536_0
  let s7 := step s6 1792 inb_S1024x2816_S1024x256_0_1792 inb_S2816x1024_S256x1024_1792_0
  let s8 := step s7 2048 inb_S1024x2816_S1024x256_0_2048 inb_S2816x1024_S256x1024_2048_0
  let s9 := step s8 2304 inb_S1024x2816_S1024x256_0_2304 inb_S2816x1024_S256x1024_2304_0
  let s10 := step s9 2560 inb_S1024x2816_S1024x256_0_2560 inb_S2816x1024_S256x1024_2560_0
  s10

/-- They add up every hidden unit's share. -/
theorem steps_apply : steps h U V D (ix2 r l) = ∑ c, terms h U V D r l c := by
  unfold steps
  dsimp only
  rw [step_apply _ _ _ _ _ 2560 (by decide),
    step_apply _ _ _ _ _ 2304 (by decide),
    step_apply _ _ _ _ _ 2048 (by decide),
    step_apply _ _ _ _ _ 1792 (by decide),
    step_apply _ _ _ _ _ 1536 (by decide),
    step_apply _ _ _ _ _ 1280 (by decide),
    step_apply _ _ _ _ _ 1024 (by decide),
    step_apply _ _ _ _ _ 768 (by decide),
    step_apply _ _ _ _ _ 512 (by decide),
    step_apply _ _ _ _ _ 256 (by decide),
    first_apply, ← sum_chunks]

/-- The normed row. -/
theorem pay2_apply (x : Vec Ideal S512x1024 .f32) (g : Vec Ideal S1x1024 .f32) :
    k0_pay2 x g (ix2 r l) = rms (fun k => x (ix2 r k)) (fun k => g (ix2 0 k)) l := by
  pointwise [k0_pay2]
  rfl
end Steps

variable (m : (ℓ : Loc nD τ sig) → Buf (Elt Ideal) ℓ)

/-- What the body leaves in the output block. -/
theorem outs_apply (c : Dev nD) (t : Fin cfg0.N) (r : Fin 512) (l : Fin 1024) :
    outsAt0 m c t (ix2 r l) = ffn (fun k => iblk m c 0 t (ix2 r k)) (fun k => iblk m c 1 t (ix2 0 k)) (fun k c' => iblk m c 2 t (ix2 k c')) (fun k c' => iblk m c 3 t (ix2 k c'))
      (fun c' l => iblk m c 4 t (ix2 c' l)) l := by
  unfold outsAt0
  frame_open
  simp (disch := decide) only [↓ View.readCov_skip, ↓ View.readCov_cons_toLoadRect, ↓ View.readCov_fill]
  frame_out
  generalize iblk m c 0 t = x, iblk m c 1 t = g, iblk m c 2 t = U, iblk m c 3 t = V, iblk m c 4 t = D
  have last (a b : Vec Ideal S512x1024 .f32) : k0_pay1 a (k0_pay20 b) (ix2 r l) = a (ix2 r l) + Ideal.ofBits .f32 0x3F000000#32 * b (ix2 r l) := by pointwise [k0_pay1, k0_pay20]
  refine (last x (steps (k0_pay2 x g) U V D)).trans ?_
  rw [steps_apply]
  unfold ffn terms
  simp only [pay2_apply]

end Cert.FfnIdeal.Ffn

end
-- ==== Proof.FfnArray.lean ====
/- The feed-forward kernel's output array: each row of the input through the block. -/
module

public import proofs.«01_k».proof.Proof.FfnBlock

@[expose] public section

set_option maxRecDepth 16384

noncomputable section

namespace Cert.FfnIdeal.Ffn

open Cert.FfnIdeal Cert.FfnIdeal.Gen Cert.FfnMath Idealize.ShloMosaic Idealize.ShloMosaic.TcCoe Idealize.SL.Sem

variable (m : (ℓ : Loc nD τ sig) → Buf (Elt Ideal) ℓ)

theorem tN (t : Fin cfg0.N) : t.val < 32 := Nat.lt_of_lt_of_eq t.isLt (by decide)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] := by decide +kernel

variable (c : Dev nD) (t : Fin cfg0.N)

/-- The arguments as the launch finds them. -/
def xs (n : Fin 16384) (k : Fin 1024) : EReal := m ((c : Thread nD τ).loc main_arg0) (ix2 n k)
def gs (k : Fin 1024) : EReal := m ((c : Thread nD τ).loc main_arg1) (ix1 k)
def gates (k : Fin 1024) (j : Fin 2816) : EReal := m ((c : Thread nD τ).loc main_arg2) (ix2 k j)
def ups (k : Fin 1024) (j : Fin 2816) : EReal := m ((c : Thread nD τ).loc main_arg3) (ix2 k j)
def downs (j : Fin 2816) (k : Fin 1024) : EReal := m ((c : Thread nD τ).loc main_arg4) (ix2 j k)

theorem x_read (r : Fin 512) (k : Fin 1024) : iblk m c 0 t (ix2 r k) = xs m c ⟨512 * t.val + r.val, by have := tN t; omega⟩ k := by
  unfold xs
  blk_ext [iblk, V, idx t]

/-- The weights' row, as a matrix of one row. -/
theorem g_row : V m c main_v0 = shapeCast S1x1024 (m ((c : Thread nD τ).loc main_arg1)) shapeCasts_S1024_S1x1024 := by
  unfold_abbrev_sides
  after_results
  rfl

theorem g_read (k : Fin 1024) : iblk m c 1 t (ix2 0 k) = gs m c k := by
  unfold gs
  have e : iblk m c 1 t (ix2 0 k) = V m c main_v0 (ix2 0 k) := by
    blk_ext [iblk, idx t]
  rw [e, g_row]
  pointwise

theorem gate_read (k : Fin 1024) (j : Fin 2816) : iblk m c 2 t (ix2 k j) = gates m c k j := by
  unfold gates
  blk_ext [iblk, V, idx t]

theorem up_read (k : Fin 1024) (j : Fin 2816) : iblk m c 3 t (ix2 k j) = ups m c k j := by
  unfold ups
  blk_ext [iblk, V, idx t]

theorem down_read (j : Fin 2816) (k : Fin 1024) : iblk m c 4 t (ix2 j k) = downs m c j k := by
  unfold downs
  blk_ext [iblk, V, idx t]

/-- The output array after the run. -/
theorem array : (dats m 0 c).arrAt 5 cfg0.N = fun i => ffn (xs m c (i 0)) (gs m c) (gates m c) (ups m c) (downs m c) (i 1) := by
  refine (dats m 0 c).arrAt_eq_of_covers 5 _ (by decide +kernel) fun t hf y => ?_
  have h0 : (y 0).val < 512 := (y 0).isLt
  have h1 : (y 1).val < 1024 := (y 1).isLt
  have e0 : ((cfg0.win 5).blk t).view.emb y 0 = (⟨512 * t.val + (y 0).val, by have := tN t; omega⟩ : Fin 16384) := by
    refine Fin.ext ?_
    blk_simp [idx t]
    have := (idx t).2.2.2.2.2
    simp [this]; omega
  have e1 : ((cfg0.win 5).blk t).view.emb y 1 = (⟨(y 1).val, h1⟩ : Fin 1024) := by
    refine Fin.ext ?_
    blk_simp [idx t]
  rw [show ffn (xs m c (((cfg0.win 5).blk t).view.emb y 0)) (gs m c) (gates m c) (ups m c) (downs m c) (((cfg0.win 5).blk t).view.emb y 1)
    = ffn (xs m c ⟨512 * t.val + (y 0).val, by have := tN t; omega⟩) (gs m c) (gates m c) (ups m c) (downs m c) ⟨(y 1).val, h1⟩ from
    congrArg₂ (fun n l => ffn (xs m c n) (gs m c) (gates m c) (ups m c) (downs m c) l) e0 e1]
  blk_simp
  rw [after0_5]
  have hy : y = ix2 (⟨(y 0).val, h0⟩ : Fin 512) ⟨(y 1).val, h1⟩ := by ext a; fin_cases a <;> rfl
  refine (congrArg (outsAt0 m c t) hy).trans ?_
  rw [outs_apply]
  simp only [x_read, g_read, gate_read, up_read, down_read]

end Cert.FfnIdeal.Ffn

end
-- ==== Proof.FfnRef.lean ====
/- What the reference's feed-forward block computes, and the claim. -/
module

public import proofs.«01_k».proof.Defs
public import proofs.«01_k».proof.Proof.Gen.FfnRefIdeal.Run
public import proofs.«01_k».proof.Proof.Gen.FfnRefIdeal.Read
public import proofs.«01_k».proof.Proof.FfnMath
public import Idealize.ShloMosaic.Lib.Pointwise

@[expose] public section

set_option maxRecDepth 16384

noncomputable section

namespace Cert.FfnRefIdeal.Ffn

open Cert.FfnRefIdeal Cert.FfnRefIdeal.Gen Cert.FfnRefIdeal.Read Cert.FfnMath Idealize.ShloMosaic Idealize.ShloMosaic.TcCoe Idealize.SL.Sem

variable (x0 : (⟨S16384x1024, .f32⟩ : BufTy).Contents (Elt Ideal)) (x1 : (⟨S1024, .f32⟩ : BufTy).Contents (Elt Ideal))
  (x2 x3 : (⟨S1024x2816, .f32⟩ : BufTy).Contents (Elt Ideal)) (x4 : (⟨S2816x1024, .f32⟩ : BufTy).Contents (Elt Ideal)) (n : Fin 16384)

/-- The sum of a row's squares. -/
theorem squares (k : Fin 1) : val_main_v2 (F := Ideal) x0 (ix2 n k) = ∑ i : Fin 1024, x0 (ix2 n i) * x0 (ix2 n i) := by
  pointwise [val_main_v2]
  rw [val_main_v1_apply]
  have e0 : val_main_cst (F := Ideal) (Shape.Idx.first h_S_) = 0 := by rw [val_main_cst_apply]; exact Ideal.ofBits_zero_f32
  rw [e0, zero_add]
  refine Finset.sum_congr rfl fun i _ => ?_
  have e : idx_main_v1 (ix1 n) i = ix2 n i := funext fun a => by match a with | ⟨0, _⟩ => rfl | ⟨1, _⟩ => rfl
  rw [e]; rfl

/-- The normed row. -/
theorem norm_apply (l : Fin 1024) : val_main_v12 (F := Ideal) x0 x1 (ix2 n l) = rms (fun k => x0 (ix2 n k)) (fun k => x1 (ix1 k)) l := by
  pointwise [val_main_v12, val_main_v11, val_main_v10, val_main_v9, val_main_v8, val_main_v7, val_main_v6, val_main_v5, val_main_v4, val_main_v3, val_main_cst_0, val_main_cst_1]
  rw [squares]; rfl

/-- The result. -/
theorem ffn_apply (l : Fin 1024) : val_main_v20 (F := Ideal) x0 x1 x2 x3 x4 (ix2 n l)
    = ffn (fun k => x0 (ix2 n k)) (fun k => x1 (ix1 k)) (fun k c => x2 (ix2 k c)) (fun k c => x3 (ix2 k c)) (fun c l => x4 (ix2 c l)) l := by
  pointwise [val_main_v20, val_main_v19, val_main_v18, val_main_cst_2, val_main_v17, val_main_v16, val_main_v15, val_main_v14, val_main_v13, val_main_call0_v5, val_main_call0_v4, val_main_call0_v3, val_main_call0_v2, val_main_call0_v1, val_main_call0_v0, val_main_call0_cst, val_main_call0_cst_0]
  simp only [norm_apply]
  rfl

end Cert.FfnRefIdeal.Ffn

end
-- ==== Proof.FfnEq.lean ====
/- The claim about the feed-forward block: the kernel ends with what its reference ends with. -/
module

public import proofs.«01_k».proof.Proof.FfnArray
public import proofs.«01_k».proof.Proof.FfnRef

@[expose] public section

noncomputable section

namespace Cert.FfnEq

open Idealize.ShloMosaic Idealize.ShloMosaic.TcCoe Idealize.SL.Sem

/-- The feed-forward claim. -/
theorem algebraic : Cert.algebraic_FfnIdeal_FfnRefIdeal := by
  intro m g m' g' _ hargs
  refine ⟨fun c => (Cert.FfnIdeal.Gen.dats m 0 c).arrAt 5 Cert.FfnIdeal.cfg0.N, Cert.FfnIdeal.Value.run_blocks m g, ?_⟩
  refine (θ_run Cert.FfnRefIdeal.defs _ _).mono (fun r h c => ⟨(h c).1.trans ?_, (h c).2⟩) (Cert.FfnRefIdeal.Value.run m' g')
  obtain ⟨h0, h1, h2, h3, h4⟩ := hargs c
  rw [Cert.FfnRefIdeal.Read.val_main_v20_eq, h0, h1, h2, h3, h4]
  refine Eq.trans ?_ (Cert.FfnIdeal.Ffn.array m c).symm
  funext i
  have hi : i = ix2 (i 0) (i 1) := funext fun a => by match a with | ⟨0, _⟩ => rfl | ⟨1, _⟩ => rfl
  exact (congrArg _ hi).trans (Cert.FfnRefIdeal.Ffn.ffn_apply _ _ _ _ _ (i 0) (i 1))

end Cert.FfnEq

end
-- ==== Proof.OutBlock.lean ====
/- What the last kernel's body leaves in its output block at one grid point: the two mixers' outputs projected and added to each row, the row through the
   feed-forward block, and its norm. -/
module

public import proofs.«01_k».proof.Proof.FfnBlock
public import proofs.«01_k».proof.Proof.Gen.OutIdeal.Value

@[expose] public section

set_option maxRecDepth 16384

noncomputable section

namespace Cert.OutMath

open Cert.FfnMath Idealize.ShloMosaic

/-- A row with the two mixers' outputs added, each against its half of the matrix. -/
def mix (v : Fin 1024 → EReal) (o p : Fin 512 → EReal) (w : Fin 1024 → Fin 1024 → EReal) (l : Fin 1024) : EReal :=
  v l + ∑ k : Fin 512, o k * w ⟨k.val, by omega⟩ l + ∑ k : Fin 512, p k * w ⟨512 + k.val, by omega⟩ l

/-- The mixed row through the feed-forward block and the last norm. -/
def out (v : Fin 1024 → EReal) (o p : Fin 512 → EReal) (w : Fin 1024 → Fin 1024 → EReal) (g : Fin 1024 → EReal) (wg wu : Fin 1024 → Fin 2816 → EReal)
    (wd : Fin 2816 → Fin 1024 → EReal) (gf : Fin 1024 → EReal) (l : Fin 1024) : EReal :=
  rms (ffn (mix v o p w) g wg wu wd) gf l

end Cert.OutMath

namespace Cert.OutIdeal.Out

open Cert.OutIdeal Cert.OutIdeal.Gen Cert.FfnMath Cert.OutMath Idealize.ShloMosaic Idealize.ShloMosaic.TcCoe Idealize.SL.Sem

section Rows
variable (x : Vec Ideal S512x1024 .f32) (o p : Vec Ideal S512x512 .bf16) (W : Vec Ideal S1024x1024 .f32) (r : Fin 512)

/-- The mixed row. -/
theorem mix_apply (l : Fin 1024) : k0_pay3 x o (View.ld W (Rect.unit ![0, 0] ![512, 1024] inb_S1024x1024_S512x1024_0_0)) p (View.ld W (Rect.unit ![512, 0] ![512, 1024] inb_S1024x1024_S512x1024_512_0)) (ix2 r l)
    = mix (fun k => x (ix2 r k)) (fun k => o (ix2 r k)) (fun k => p (ix2 r k)) (fun k l => W (ix2 k l)) l := by
  have e1 (k : Fin 512) : View.ld W (Rect.unit ![0, 0] ![512, 1024] inb_S1024x1024_S512x1024_0_0) (ix2 k l) = W (ix2 ⟨k.val, by omega⟩ l) :=
    View.ld_unit_apply_of W _ _ _ _ _ fun a => by fin_cases a <;> simp
  have e2 (k : Fin 512) : View.ld W (Rect.unit ![512, 0] ![512, 1024] inb_S1024x1024_S512x1024_512_0) (ix2 k l) = W (ix2 ⟨512 + k.val, by omega⟩ l) :=
    View.ld_unit_apply_of W _ _ _ _ _ fun a => by fin_cases a <;> simp
  generalize View.ld W (Rect.unit ![0, 0] ![512, 1024] inb_S1024x1024_S512x1024_0_0) = A at e1 ⊢
  generalize View.ld W (Rect.unit ![512, 0] ![512, 1024] inb_S1024x1024_S512x1024_512_0) = B at e2 ⊢
  pointwise [k0_pay3]
  simp only [e1, e2]
  rfl

/-- The norm of a sum of rows. -/
theorem norm_apply (a b : Vec Ideal S512x1024 .f32) (g : Vec Ideal S1x1024 .f32) (l : Fin 1024) :
    k0_pay2 a b g (ix2 r l) = rms (fun k => a (ix2 r k) + Ideal.ofBits .f32 0x3F000000#32 * b (ix2 r k)) (fun k => g (ix2 0 k)) l := by
  pointwise [k0_pay2]
  rfl
end Rows

variable (m : (ℓ : Loc nD τ sig) → Buf (Elt Ideal) ℓ)

/-- What the body leaves in the output block. -/
theorem outs_apply (c : Dev nD) (t : Fin cfg0.N) (r : Fin 512) (l : Fin 1024) :
    outsAt0 m c t (ix2 r l) = out (fun k => iblk m c 0 t (ix2 r k)) (fun k => iblk m c 1 t (ix2 r k)) (fun k => iblk m c 2 t (ix2 r k)) (fun k l => iblk m c 3 t (ix2 k l))
      (fun k => iblk m c 4 t (ix2 0 k)) (fun k c' => iblk m c 5 t (ix2 k c')) (fun k c' => iblk m c 6 t (ix2 k c')) (fun c' l => iblk m c 7 t (ix2 c' l)) (fun k => iblk m c 8 t (ix2 0 k)) l := by
  unfold outsAt0
  frame_open
  simp (disch := decide) only [↓ View.readCov_skip, ↓ View.readCov_cons_toLoadRect, ↓ View.readCov_fill]
  frame_out
  generalize iblk m c 0 t = x, iblk m c 1 t = o, iblk m c 2 t = p, iblk m c 3 t = W, iblk m c 4 t = g, iblk m c 5 t = U, iblk m c 6 t = V, iblk m c 7 t = D, iblk m c 8 t = f
  have e := mix_apply x o p W r
  have n (a : Vec Ideal S512x1024 .f32) (l : Fin 1024) := Cert.FfnIdeal.Ffn.pay2_apply r l a g
  refine (norm_apply r (k0_pay3 x o (View.ld W (Rect.unit ![0, 0] ![512, 1024] inb_S1024x1024_S512x1024_0_0)) p (View.ld W (Rect.unit ![512, 0] ![512, 1024] inb_S1024x1024_S512x1024_512_0)))
    (Cert.FfnIdeal.Ffn.steps (Cert.FfnIdeal.Gen.k0_pay2 (k0_pay3 x o (View.ld W (Rect.unit ![0, 0] ![512, 1024] inb_S1024x1024_S512x1024_0_0)) p (View.ld W (Rect.unit ![512, 0] ![512, 1024] inb_S1024x1024_S512x1024_512_0))) g) U V D) f l).trans ?_
  generalize k0_pay3 x o (View.ld W (Rect.unit ![0, 0] ![512, 1024] inb_S1024x1024_S512x1024_0_0)) p (View.ld W (Rect.unit ![512, 0] ![512, 1024] inb_S1024x1024_S512x1024_512_0)) = X at e ⊢
  unfold out ffn
  simp only [Cert.FfnIdeal.Ffn.steps_apply, Cert.FfnIdeal.Ffn.terms, n, e]

end Cert.OutIdeal.Out

end
-- ==== Proof.OutArray.lean ====
/- The last kernel's output array: each row with the mixers' outputs added, through the feed-forward block and the last norm. -/
module

public import proofs.«01_k».proof.Proof.OutBlock

@[expose] public section

set_option maxRecDepth 16384

noncomputable section

namespace Cert.OutIdeal.Out

open Cert.OutIdeal Cert.OutIdeal.Gen Cert.FfnMath Cert.OutMath Idealize.ShloMosaic Idealize.ShloMosaic.TcCoe Idealize.SL.Sem

variable (m : (ℓ : Loc nD τ sig) → Buf (Elt Ideal) ℓ)

theorem tN (t : Fin cfg0.N) : t.val < 32 := Nat.lt_of_lt_of_eq t.isLt (by decide)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![t.val, 0] := by decide +kernel

variable (c : Dev nD) (t : Fin cfg0.N)

/-- The arguments as the launch finds them. -/
def xs (n : Fin 16384) (k : Fin 1024) : EReal := m ((c : Thread nD τ).loc main_arg0) (ix2 n k)
def os (n : Fin 16384) (k : Fin 512) : EReal := m ((c : Thread nD τ).loc main_arg1) (ix2 n k)
def ps (n : Fin 16384) (k : Fin 512) : EReal := m ((c : Thread nD τ).loc main_arg2) (ix2 n k)
def ws (k l : Fin 1024) : EReal := m ((c : Thread nD τ).loc main_arg3) (ix2 k l)
def gs (k : Fin 1024) : EReal := m ((c : Thread nD τ).loc main_arg4) (ix1 k)
def gates (k : Fin 1024) (j : Fin 2816) : EReal := m ((c : Thread nD τ).loc main_arg5) (ix2 k j)
def ups (k : Fin 1024) (j : Fin 2816) : EReal := m ((c : Thread nD τ).loc main_arg6) (ix2 k j)
def downs (j : Fin 2816) (k : Fin 1024) : EReal := m ((c : Thread nD τ).loc main_arg7) (ix2 j k)
def fs (k : Fin 1024) : EReal := m ((c : Thread nD τ).loc main_arg8) (ix1 k)

/-- Row `n` of the result. -/
def result (n : Fin 16384) (l : Fin 1024) : EReal :=
  out (xs m c n) (os m c n) (ps m c n) (ws m c) (gs m c) (gates m c) (ups m c) (downs m c) (fs m c) l

theorem x_read (r : Fin 512) (k : Fin 1024) : iblk m c 0 t (ix2 r k) = xs m c ⟨512 * t.val + r.val, by have := tN t; omega⟩ k := by
  unfold xs
  blk_ext [iblk, V, idx t]

theorem o_read (r k : Fin 512) : iblk m c 1 t (ix2 r k) = os m c ⟨512 * t.val + r.val, by have := tN t; omega⟩ k := by
  unfold os
  blk_ext [iblk, V, idx t]

theorem p_read (r k : Fin 512) : iblk m c 2 t (ix2 r k) = ps m c ⟨512 * t.val + r.val, by have := tN t; omega⟩ k := by
  unfold ps
  blk_ext [iblk, V, idx t]

theorem w_read (k l : Fin 1024) : iblk m c 3 t (ix2 k l) = ws m c k l := by
  unfold ws
  blk_ext [iblk, V, idx t]

/-- The two norms' weights, each as a matrix of one row. -/
theorem g_row : V m c main_v0 = shapeCast S1x1024 (m ((c : Thread nD τ).loc main_arg4)) shapeCasts_S1024_S1x1024 := by
  unfold_abbrev_sides
  after_results
  rfl

theorem f_row : V m c main_v1 = shapeCast S1x1024 (m ((c : Thread nD τ).loc main_arg8)) shapeCasts_S1024_S1x1024 := by
  unfold_abbrev_sides
  after_results
  rfl

theorem g_read (k : Fin 1024) : iblk m c 4 t (ix2 0 k) = gs m c k := by
  unfold gs
  have e : iblk m c 4 t (ix2 0 k) = V m c main_v0 (ix2 0 k) := by
    blk_ext [iblk, idx t]
  rw [e, g_row]
  pointwise

theorem f_read (k : Fin 1024) : iblk m c 8 t (ix2 0 k) = fs m c k := by
  unfold fs
  have e : iblk m c 8 t (ix2 0 k) = V m c main_v1 (ix2 0 k) := by
    blk_ext [iblk, idx t]
  rw [e, f_row]
  pointwise

theorem gate_read (k : Fin 1024) (j : Fin 2816) : iblk m c 5 t (ix2 k j) = gates m c k j := by
  unfold gates
  blk_ext [iblk, V, idx t]

theorem up_read (k : Fin 1024) (j : Fin 2816) : iblk m c 6 t (ix2 k j) = ups m c k j := by
  unfold ups
  blk_ext [iblk, V, idx t]

theorem down_read (j : Fin 2816) (k : Fin 1024) : iblk m c 7 t (ix2 j k) = downs m c j k := by
  unfold downs
  blk_ext [iblk, V, idx t]

/-- The output array after the run. -/
theorem array : (dats m 0 c).arrAt 9 cfg0.N = fun i => result m c (i 0) (i 1) := by
  refine (dats m 0 c).arrAt_eq_of_covers 9 _ (by decide +kernel) fun t hf y => ?_
  have h0 : (y 0).val < 512 := (y 0).isLt
  have h1 : (y 1).val < 1024 := (y 1).isLt
  have e0 : ((cfg0.win 9).blk t).view.emb y 0 = (⟨512 * t.val + (y 0).val, by have := tN t; omega⟩ : Fin 16384) := by
    refine Fin.ext ?_
    blk_simp [idx t]
    have := (idx t).2.2.2.2.2.2.2.2.2
    simp [this]; omega
  have e1 : ((cfg0.win 9).blk t).view.emb y 1 = (⟨(y 1).val, h1⟩ : Fin 1024) := by
    refine Fin.ext ?_
    blk_simp [idx t]
  rw [show result m c (((cfg0.win 9).blk t).view.emb y 0) (((cfg0.win 9).blk t).view.emb y 1) = result m c ⟨512 * t.val + (y 0).val, by have := tN t; omega⟩ ⟨(y 1).val, h1⟩ from
    congrArg₂ (result m c) e0 e1]
  blk_simp
  rw [after0_9]
  have hy : y = ix2 (⟨(y 0).val, h0⟩ : Fin 512) ⟨(y 1).val, h1⟩ := by ext a; fin_cases a <;> rfl
  refine (congrArg (outsAt0 m c t) hy).trans ?_
  rw [outs_apply]
  unfold result
  simp only [x_read, o_read, p_read, w_read, g_read, f_read, gate_read, up_read, down_read]

end Cert.OutIdeal.Out

end
-- ==== Proof.OutRef.lean ====
/- What the last kernel's reference computes. -/
module

public import proofs.«01_k».proof.Defs
public import proofs.«01_k».proof.Proof.Gen.OutRefIdeal.Run
public import proofs.«01_k».proof.Proof.Gen.OutRefIdeal.Read
public import proofs.«01_k».proof.Proof.OutBlock

@[expose] public section

set_option maxRecDepth 16384

noncomputable section

namespace Cert.OutRefIdeal.Out

open Cert.OutRefIdeal Cert.OutRefIdeal.Gen Cert.OutRefIdeal.Read Cert.FfnMath Cert.OutMath Idealize.ShloMosaic Idealize.ShloMosaic.TcCoe Idealize.SL.Sem

variable (x0 : (⟨S16384x1024, .f32⟩ : BufTy).Contents (Elt Ideal)) (x1 x2 : (⟨S16384x512, .bf16⟩ : BufTy).Contents (Elt Ideal))
  (x3 : (⟨S1024x1024, .f32⟩ : BufTy).Contents (Elt Ideal)) (x4 : (⟨S1024, .f32⟩ : BufTy).Contents (Elt Ideal))
  (x5 x6 : (⟨S1024x2816, .f32⟩ : BufTy).Contents (Elt Ideal)) (x7 : (⟨S2816x1024, .f32⟩ : BufTy).Contents (Elt Ideal))
  (x8 : (⟨S1024, .f32⟩ : BufTy).Contents (Elt Ideal)) (n : Fin 16384)

/-- The mixed row: the sum over the joined outputs is one sum per mixer. -/
theorem mix_apply (l : Fin 1024) : val_main_v4 (F := Ideal) x0 x1 x2 x3 (ix2 n l)
    = mix (fun k => x0 (ix2 n k)) (fun k => x1 (ix2 n k)) (fun k => x2 (ix2 n k)) (fun k l => x3 (ix2 k l)) l := by
  pointwise [val_main_v4, val_main_v3, val_main_v2, val_main_v1, val_main_v0]
  unfold mix
  rw [add_assoc]

/-- The sum of a mixed row's squares. -/
theorem squares (k : Fin 1) : val_main_v7 (F := Ideal) x0 x1 x2 x3 (ix2 n k)
    = ∑ i : Fin 1024, val_main_v4 (F := Ideal) x0 x1 x2 x3 (ix2 n i) * val_main_v4 (F := Ideal) x0 x1 x2 x3 (ix2 n i) := by
  pointwise [val_main_v7]
  rw [val_main_v6_apply]
  have e0 : val_main_cst (F := Ideal) (Shape.Idx.first h_S_) = 0 := by rw [val_main_cst_apply]; exact Ideal.ofBits_zero_f32
  rw [e0, zero_add]
  refine Finset.sum_congr rfl fun i _ => ?_
  have e : idx_main_v6 (ix1 n) i = ix2 n i := funext fun a => by match a with | ⟨0, _⟩ => rfl | ⟨1, _⟩ => rfl
  rw [e]; rfl

/-- The mixed row normed. -/
theorem norm_apply (l : Fin 1024) : val_main_v17 (F := Ideal) x0 x1 x2 x3 x4 (ix2 n l)
    = rms (fun k => val_main_v4 (F := Ideal) x0 x1 x2 x3 (ix2 n k)) (fun k => x4 (ix1 k)) l := by
  pointwise [val_main_v17, val_main_v16, val_main_v15, val_main_v14, val_main_v13, val_main_v12, val_main_v11, val_main_v10, val_main_v9, val_main_v8, val_main_cst_0, val_main_cst_1]
  rw [squares]; rfl

/-- The row after the feed-forward block. -/
theorem ffn_apply (l : Fin 1024) : val_main_v25 (F := Ideal) x0 x1 x2 x3 x4 x5 x6 x7 (ix2 n l)
    = ffn (fun k => val_main_v4 (F := Ideal) x0 x1 x2 x3 (ix2 n k)) (fun k => x4 (ix1 k)) (fun k c => x5 (ix2 k c)) (fun k c => x6 (ix2 k c)) (fun c l => x7 (ix2 c l)) l := by
  pointwise [val_main_v25, val_main_v24, val_main_v23, val_main_cst_2, val_main_v22, val_main_v21, val_main_v20, val_main_v19, val_main_v18, val_main_call0_v5, val_main_call0_v4, val_main_call0_v3, val_main_call0_v2, val_main_call0_v1, val_main_call0_v0, val_main_call0_cst, val_main_call0_cst_0]
  simp only [norm_apply]
  rfl

/-- The sum of that row's squares. -/
theorem last_squares (k : Fin 1) : val_main_v28 (F := Ideal) x0 x1 x2 x3 x4 x5 x6 x7 (ix2 n k)
    = ∑ i : Fin 1024, val_main_v25 (F := Ideal) x0 x1 x2 x3 x4 x5 x6 x7 (ix2 n i) * val_main_v25 (F := Ideal) x0 x1 x2 x3 x4 x5 x6 x7 (ix2 n i) := by
  pointwise [val_main_v28]
  rw [val_main_v27_apply]
  have e0 : val_main_cst_3 (F := Ideal) (Shape.Idx.first h_S_) = 0 := by rw [val_main_cst_3_apply]; exact Ideal.ofBits_zero_f32
  rw [e0, zero_add]
  refine Finset.sum_congr rfl fun i _ => ?_
  have e : idx_main_v27 (ix1 n) i = ix2 n i := funext fun a => by match a with | ⟨0, _⟩ => rfl | ⟨1, _⟩ => rfl
  rw [e]; rfl

/-- The result. -/
theorem out_apply (l : Fin 1024) : val_main_v38 (F := Ideal) x0 x1 x2 x3 x4 x5 x6 x7 x8 (ix2 n l)
    = out (fun k => x0 (ix2 n k)) (fun k => x1 (ix2 n k)) (fun k => x2 (ix2 n k)) (fun k l => x3 (ix2 k l)) (fun k => x4 (ix1 k)) (fun k c => x5 (ix2 k c)) (fun k c => x6 (ix2 k c))
      (fun c l => x7 (ix2 c l)) (fun k => x8 (ix1 k)) l := by
  pointwise [val_main_v38, val_main_v37, val_main_v36, val_main_v35, val_main_v34, val_main_v33, val_main_v32, val_main_v31, val_main_v30, val_main_v29, val_main_cst_4, val_main_cst_5]
  rw [last_squares]
  simp only [ffn_apply, mix_apply]
  rfl

end Cert.OutRefIdeal.Out

end
-- ==== Proof.OutEq.lean ====
/- The claim about the last kernel: it ends with what its reference ends with. -/
module

public import proofs.«01_k».proof.Proof.OutArray
public import proofs.«01_k».proof.Proof.OutRef

@[expose] public section

noncomputable section

namespace Cert.OutEq

open Idealize.ShloMosaic Idealize.ShloMosaic.TcCoe Idealize.SL.Sem

/-- The claim. -/
theorem algebraic : Cert.algebraic_OutIdeal_OutRefIdeal := by
  intro m g m' g' _ hargs
  refine ⟨fun c => (Cert.OutIdeal.Gen.dats m 0 c).arrAt 9 Cert.OutIdeal.cfg0.N, Cert.OutIdeal.Value.run_blocks m g, ?_⟩
  refine (θ_run Cert.OutRefIdeal.defs _ _).mono (fun r h c => ⟨(h c).1.trans ?_, (h c).2⟩) (Cert.OutRefIdeal.Value.run m' g')
  obtain ⟨h0, h1, h2, h3, h4, h5, h6, h7, h8⟩ := hargs c
  rw [Cert.OutRefIdeal.Read.val_main_v38_eq, h0, h1, h2, h3, h4, h5, h6, h7, h8]
  refine Eq.trans ?_ (Cert.OutIdeal.Out.array m c).symm
  funext i
  have hi : i = ix2 (i 0) (i 1) := funext fun a => by match a with | ⟨0, _⟩ => rfl | ⟨1, _⟩ => rfl
  exact (congrArg _ hi).trans (Cert.OutRefIdeal.Out.out_apply _ _ _ _ _ _ _ _ _ (i 0) (i 1))

end Cert.OutEq

end
-- ==== Proof.InProjRun.lean ====
/- One run of the input projection's body on any staging buffers: what it leaves in its two output blocks and in the buffer that carries a row from one
   grid point to the next. -/
module

public import proofs.«01_k».proof.Proof.Gen.InProjIdeal.Frame
public import proofs.«01_k».proof.Proof.Gen.InProjIdeal.Skeleton
public import Idealize.ShloMosaic.Lib.Claim
public import Idealize.ShloMosaic.Lib.VecWindow
public import Idealize.ShloMosaic.Lib.Pipeline.ValueKit

@[expose] public section

set_option maxRecDepth 16384

noncomputable section

namespace Cert.InProjIdeal.Carry

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The bit that says a grid point starts a sequence: its number is a multiple of eight. -/
def starts (i : grid0.Coords) : BitVec 1 :=
  let n := Scalar.select (Scalar.cmpi .eq 8#32 0#32) 1#32 8#32
  let q := Scalar.remsi (BitVec.ofNat 32 (i 0).val) n
  Scalar.cmpi .eq (Scalar.select (Scalar.andi (Scalar.xori (Scalar.cmpi .slt q 0#32) (Scalar.cmpi .slt n 0#32)) (Scalar.cmpi .ne q 0#32)) (Scalar.addi q n) q) 0#32

/-- The first row of the carrying buffer. -/
abbrev firstRow (d : Vec F S8x1792 .f32) : Vec F S1x1792 .f32 := View.ld d (Rect.unit ![0, 0] S1x1792.size inb_S8x1792_S1x1792_0_0)

variable (c : Dev nD) (i : grid0.Coords) (arg1 : Memref sig .tc .vmem S1024x1024 .f32) (harg1 : arg1.IsWhole) (arg2 : Memref sig .tc .vmem S1x1024 .f32) (harg2 : arg2.IsWhole)
  (arg3 : Memref sig .tc .vmem S1024x2560 .bf16) (harg3 : arg3.IsWhole) (arg4 : Memref sig .tc .vmem S1x768 .f32) (harg4 : arg4.IsWhole) (arg5 : Memref sig .tc .vmem S1x1792 .f32) (harg5 : arg5.IsWhole)
  (arg6 : Memref sig .tc .vmem S1024x1792 .f32) (harg6 : arg6.IsWhole) (arg7 : Memref sig .tc .vmem S1024x768 .f32) (harg7 : arg7.IsWhole) (arg8 : Memref sig .tc .vmem S8x1792 .f32) (harg8 : arg8.IsWhole)
  (x : Vec F S1024x1024 .f32) (g : Vec F S1x1024 .f32) (w : Vec F S1024x2560 .bf16) (b : Vec F S1x768 .f32) (mu : Vec F S1x1792 .f32) (d : Vec F S8x1792 .f32)

set_option maxHeartbeats 1000000 in
/-- The body's run: the inputs as they were, the two outputs' blocks and the carrying buffer's first row as computed. -/
theorem run (E : Set ℕ) (K : PUnit → sProp 𝕄) :
    iprop(owns (c : Thread nD τ) arg1 fullShare x ∗ owns (c : Thread nD τ) arg2 fullShare g ∗ owns (c : Thread nD τ) arg3 fullShare w ∗ owns (c : Thread nD τ) arg4 fullShare b ∗ owns (c : Thread nD τ) arg5 fullShare mu
        ∗ (∃ e, owns (c : Thread nD τ) arg6 fullShare e) ∗ (∃ e, owns (c : Thread nD τ) arg7 fullShare e) ∗ owns (c : Thread nD τ) arg8 fullShare d
        ∗ (iprop(owns (c : Thread nD τ) arg1 fullShare x ∗ owns (c : Thread nD τ) arg2 fullShare g ∗ owns (c : Thread nD τ) arg3 fullShare w ∗ owns (c : Thread nD τ) arg4 fullShare b ∗ owns (c : Thread nD τ) arg5 fullShare mu
          ∗ owns (c : Thread nD τ) arg6 fullShare (k0_pay1 (k0_pay5 x g w) (starts i) (firstRow d) mu)
          ∗ owns (c : Thread nD τ) arg7 fullShare (k0_pay4 x g w b)
          ∗ (∃ e, owns (c : Thread nD τ) arg8 fullShare e ∗ ⌜firstRow e = k0_pay2 (k0_pay5 x g w)⌝)) -∗ K ⟨⟩))
      ⊢ wp frame (wpE (defs₀ (F := F)) Variants.none c none) E (cc0_in_proj i arg1 harg1 arg2 harg2 arg3 harg3 arg4 harg4 arg5 harg5 arg6 harg6 arg7 harg7 arg8 harg8) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4
  obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    frame_open
    refine (View.read_writes_full (s := S1024x1792) arg6.view f5 inb_S1024x1792_S1024x1792_0_0 _ []).trans ?_
    simp only [View.readAt_eq_ld, harg1.read_unread, harg2.read_unread, harg3.read_unread, harg5.read_unread, harg8.read_unread]
    refine congr (congrArg₂ (fun p r => k0_pay1 p (starts i) r) ?_ rfl) (View.ld_unit_lit' _ _ (by decide))
    congr 1 <;> exact View.ld_unit_lit' _ _ (by decide)
  isplitl [H6]
  · iexists _; isplitr
    swap; · iexact H6
    ipureintro
    refine (View.read_writes_full (s := S1024x768) arg7.view f6 inb_S1024x768_S1024x768_0_0 _ []).trans ?_
    simp only [View.readAt_eq_ld, harg1.read_unread, harg2.read_unread, harg3.read_unread, harg4.read_unread]
    congr 1 <;> exact View.ld_unit_lit' _ _ (by decide)
  iexists _; isplitl [H7]
  · iexists _; isplitr
    swap; · iexact H7
    ipureintro; rfl
  ipureintro
  frame_open
  simp only [View.readAt_eq_ld, harg1.read_unread, harg2.read_unread, harg3.read_unread]
  funext y
  refine (View.read_writes_cons_unit_of_mem arg8.view _ inb_S8x1792_S1x1792_0_0 _ [] _ y rfl fun a => ?_).trans (congrFun (congrArg k0_pay2 ?_) y)
  · fin_cases a <;> simp
  · congr 1 <;> exact View.ld_unit_lit' _ _ (by decide)

end Cert.InProjIdeal.Carry

end
-- ==== Proof.InProjFrame.lean ====
/- The input projection's run over its sixteen grid points: every block carries in the last row of the block before it, and the arguments end as launched. -/
module

public import proofs.«01_k».proof.Proof.InProjRun

@[expose] public section

set_option maxRecDepth 16384

noncomputable section

namespace Cert.InProjIdeal.Carry

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The bit is set at the points whose number is a multiple of eight. -/
theorem starts_eq : ∀ t : Fin cfg0.N, starts (grid0.coords t) = if t.val % 8 = 0 then 1#1 else 0#1 :=
  (by decide +kernel : ∀ t : Fin grid0.N, starts (grid0.coords t) = if t.val % 8 = 0 then 1#1 else 0#1)

/-- A point that starts a sequence takes nothing from the row carried in. -/
theorem pay1_first (p : FVec F S1024x1792 .f32) (r r' mu : Vec F S1x1792 .f32) : k0_pay1 p 1#1 r mu = k0_pay1 p 1#1 r' mu := rfl

/-- The projection's columns for the first mixer, at a point. -/
abbrev block (c : Dev nD) (t : Fin cfg0.N) : FVec F S1024x1792 .f32 := k0_pay5 (iblk m c 0 t) (iblk m c 1 t) (iblk m c 2 t)

/-- The point before (the first point's is itself). -/
def pred (t : Fin cfg0.N) : Fin cfg0.N := ⟨t.val - 1, by have := t.isLt; omega⟩

/-- The two outputs' blocks after a point. -/
def first (c : Dev nD) (t : Fin cfg0.N) : Vec F S1024x1792 .f32 :=
  k0_pay1 (block m c t) (starts (grid0.coords t)) (k0_pay2 (block m c (pred t))) (iblk m c 4 t)
def second (c : Dev nD) (t : Fin cfg0.N) : Vec F S1024x768 .f32 := k0_pay4 (iblk m c 0 t) (iblk m c 1 t) (iblk m c 2 t) (iblk m c 3 t)

/-- The carrying buffer. -/
abbrev buffer : Memref sig .tc .vmem S8x1792 .f32 := Memref.whole cc0_scratch0

/-- What holds between two points: after point `t` the carrying buffer's first row is the last row of `t`'s block. -/
def carried (c : Dev nD) (p : Fin (cfg0.N + 1)) : sProp 𝕄 :=
  iprop((∃ d, owns (c : Thread nD τ) buffer fullShare d ∗ ⌜∀ t : Fin cfg0.N, p = t.succ → firstRow d = k0_pay2 (block m c t)⌝) ∗ ∃ r, prngReg c r)

/-- The run's contents, window by window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => first m c t
    | ⟨6, _⟩ => second m c t
  Φ p := carried m c p
  q _ := fullShare
  owed _ := 0

theorem A_eq (c : Dev nD) (w : Fin cfg0.W) : (dats m 0 c).A w = V m c (Pipeline.arrRef spec0 w) := by
  dsimp only [dats]

variable (c : Dev nD) (t : Fin cfg0.N)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = first m c t := by dsimp only [dats]
theorem after6 : (dats m 0 c).after 6 t = second m c t := by dsimp only [dats]
theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d
theorem before4 (d) : (dats m 0 c).before 4 t d = iblk m c 4 t := before0_4_of m (dats m 0 c) (A_eq m c 4) (after4 m c) t d

/-- Whatever the buffer holds before a point, the first output's block is the one with the row of the point before. -/
theorem first_of (d : Vec F S8x1792 .f32) (h : ∀ s : Fin cfg0.N, t.castSucc = s.succ → firstRow d = k0_pay2 (block m c s)) :
    k0_pay1 (block m c t) (starts (grid0.coords t)) (firstRow d) (iblk m c 4 t) = first m c t := by
  unfold first
  rcases Nat.eq_zero_or_pos t.val with h0 | h0
  · rw [show starts (grid0.coords t) = 1#1 by rw [starts_eq, h0]; rfl]
    exact pay1_first _ _ _ _
  · rw [h (pred t) (Fin.ext (by unfold pred; simp; omega))]

/-- What the body is called with at a point, and what it returns. -/
def before : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def after : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at a point, from the row the point before left. -/
theorem body : before m c t ⊢ wp frame (wpE (defs₀ (F := F)) Variants.none c none) Set.univ (bodyAt0 t) (fun _ => after m c t) := by
  unfold before after bodyAt0
  simp only [before0, before1, before2, before3, before4]
  rw [show (dats m 0 c).owesAt () t.succ = (dats m 0 c).owesAt () t.castSucc from rfl, after0, after1, after2, after3, after4, after5, after6,
    show (dats m 0 c).Φ t.succ = carried m c t.succ from rfl, show (dats m 0 c).Φ t.castSucc = carried m c t.castSucc from rfl]
  unfold carried
  iintro ⟨⟨⟨%d, HS, %hd⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ (iblk m c 0 t) (iblk m c 1 t) (iblk m c 2 t) (iblk m c 3 t) (iblk m c 4 t) d Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  rw [first_of m c t d hd]
  iintro ⟨H0, H1, H2, H3, H4, H5, H6, ⟨%e, HS, %he⟩⟩
  isplitl [HS Hg]
  · isplitl [HS]
    · iexists e; isplitl [HS]; · iexact HS
      ipureintro
      intro s hs
      obtain rfl := Fin.succ_injective _ hs
      exact he
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body at the point's staging buffers. -/
theorem row : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (body m c t) rfl .rfl fun _ => .rfl

/-- The launch's scratch buffer holds anything, and so it may after the last point. -/
theorem scratch_eq : (Pipeline.ΦA spec0 c : sProp 𝕄) = iprop((∃ d, owns (c : Thread nD τ) buffer fullShare d) ∗ ∃ r, prngReg c r) := by
  unfold Pipeline.ΦA; rw [scopedRest0_eq]; simp only [buffer, owns_whole]; try rfl

theorem enter : (Pipeline.ΦA spec0 c : sProp 𝕄) ⊢ (dats m 0 c).Φ 0 := by
  rw [scratch_eq, show (dats m 0 c).Φ 0 = carried m c 0 from rfl]
  unfold carried
  iintro ⟨⟨%d, H⟩, Hg⟩
  isplitl [H]
  · iexists d; isplitl [H]; · iexact H
    ipureintro
    intro t ht
    exact absurd ht.symm (Fin.succ_ne_zero t)
  iexact Hg

theorem leave : (dats m 0 c).Φ (Fin.last cfg0.N) ⊢ (Pipeline.ΦA spec0 c : sProp 𝕄) := by
  rw [scratch_eq, show (dats m 0 c).Φ (Fin.last cfg0.N) = carried m c (Fin.last cfg0.N) from rfl]
  unfold carried
  iintro ⟨⟨%d, H, -⟩, Hg⟩
  isplitl [H]
  · iexists d; iexact H
  iexact Hg

set_option backward.isDefEq.respectTransparency.types false in
/-- The run from a launch: every array as the run's contents say, and every counter at zero. -/
theorem quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (quiescent m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (quiescent m ρ))

end Cert.InProjIdeal.Carry

end
-- ==== Proof.InProjBlock.lean ====
/- What the input projection's body leaves in its two output blocks at one grid point: each row normed and projected, the first mixer's columns blended with
   the row before, the second's with a bias added. -/
module

public import proofs.«01_k».proof.Proof.InProjFrame
public import proofs.«01_k».proof.Proof.FfnMath
public import Idealize.ShloMosaic.Lib.Pointwise

@[expose] public section

set_option maxRecDepth 16384

noncomputable section

namespace Cert.InProjMath

open Cert.FfnMath Idealize.ShloMosaic

/-- A row normed and projected. -/
def cols (v g : Fin 1024 → EReal) (w : Fin 1024 → Fin 2560 → EReal) (j : Fin 2560) : EReal := proj (rms v g) w j

/-- A column for the first mixer: moved towards the row before by its weight. -/
def blend (p q mu : EReal) : EReal := p + (q - p) * mu

end Cert.InProjMath

namespace Cert.InProjIdeal.Carry

open Cert.InProjIdeal Cert.InProjIdeal.Gen Cert.FfnMath Cert.InProjMath Idealize.ShloMosaic Idealize.ShloMosaic.TcCoe Idealize.SL.Sem

section Rows
variable (x : Vec Ideal S1024x1024 .f32) (g : Vec Ideal S1x1024 .f32) (w : Vec Ideal S1024x2560 .bf16) (r : Fin 1024)

/-- The projection of a row. -/
theorem cols_apply (j : Fin 2560) : k0_pay3 x g w (ix2 r j) = cols (fun k => x (ix2 r k)) (fun k => g (ix2 0 k)) (fun k l => w (ix2 k l)) j := by
  pointwise [k0_pay3]
  rfl

/-- Its first columns. -/
theorem left_apply (j : Fin 1792) : k0_pay5 x g w (ix2 r j) = cols (fun k => x (ix2 r k)) (fun k => g (ix2 0 k)) (fun k l => w (ix2 k l)) ⟨j.val, by omega⟩ := by
  pointwise [k0_pay5]
  exact cols_apply x g w r _

/-- The others, with the bias. -/
theorem right_apply (b : Vec Ideal S1x768 .f32) (j : Fin 768) :
    k0_pay4 x g w b (ix2 r j) = cols (fun k => x (ix2 r k)) (fun k => g (ix2 0 k)) (fun k l => w (ix2 k l)) ⟨1792 + j.val, by omega⟩ + b (ix2 0 j) := by
  pointwise [k0_pay4]
  rw [cols_apply x g w r]

/-- The last row of a block. -/
theorem last_apply (p : FVec Ideal S1024x1792 .f32) (z : Fin 1) (j : Fin 1792) : k0_pay2 p (ix2 z j) = p (ix2 1023 j) := by
  pointwise [k0_pay2]

/-- A row below the first is blended with the one above it. -/
theorem blend_below (p : FVec Ideal S1024x1792 .f32) (s : BitVec 1) (q mu : Vec Ideal S1x1792 .f32) (j : Fin 1792) (h : r.val ≠ 0) :
    k0_pay1 p s q mu (ix2 r j) = blend (p (ix2 r j)) (p (ix2 ⟨r.val - 1, by omega⟩ j)) (mu (ix2 0 j)) := by
  have c0 : IntOp.cmpi .eq (BitVec.ofNat 32 r.val) 0#32 = 0#1 := by
    have : ¬ BitVec.ofNat 32 r.val = 0#32 := fun e => h (by have := congrArg BitVec.toNat e; simp at this; omega)
    change BitVec.ofBool (BitVec.ofNat 32 r.val == 0#32) = 0#1
    rw [beq_eq_false_iff_ne.mpr this]; rfl
  have e : (⟨(r.val + 1024 - 1) % 1024, Nat.mod_lt _ (by decide)⟩ : Fin 1024) = ⟨r.val - 1, by omega⟩ := Fin.ext (by simp; omega)
  pointwise [k0_pay1]
  rw [c0, e]
  rfl

/-- The first row is blended with zero at a sequence's start, else with the row carried in. -/
theorem blend_top (p : FVec Ideal S1024x1792 .f32) (s : BitVec 1) (q mu : Vec Ideal S1x1792 .f32) (j : Fin 1792) :
    k0_pay1 p s q mu (ix2 0 j) = blend (p (ix2 0 j)) (Scalar.select s 0 (q (ix2 0 j))) (mu (ix2 0 j)) := by
  pointwise [k0_pay1]
  rfl
end Rows

end Cert.InProjIdeal.Carry

end
-- ==== Proof.InProjArray.lean ====
/- The input projection's two output arrays. -/
module

public import proofs.«01_k».proof.Proof.InProjBlock

@[expose] public section

set_option maxRecDepth 16384

noncomputable section

namespace Cert.InProjIdeal.Carry

open Cert.InProjIdeal Cert.InProjIdeal.Gen Cert.FfnMath Cert.InProjMath Idealize.ShloMosaic Idealize.ShloMosaic.TcCoe Idealize.SL.Sem

variable (m : (ℓ : Loc nD τ sig) → Buf (Elt Ideal) ℓ) (ρ : Dev nD → PrngReg)

theorem tN (t : Fin cfg0.N) : t.val < 16 := Nat.lt_of_lt_of_eq t.isLt (by decide)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] := by decide +kernel

variable (c : Dev nD) (t : Fin cfg0.N)

/-- The arguments as the launch finds them. -/
def xs (n : Fin 16384) (k : Fin 1024) : EReal := m ((c : Thread nD τ).loc main_arg0) (ix2 n k)
def gs (k : Fin 1024) : EReal := m ((c : Thread nD τ).loc main_arg1) (ix1 k)
def ws (k : Fin 1024) (l : Fin 2560) : EReal := m ((c : Thread nD τ).loc main_arg2) (ix2 k l)
def bs (j : Fin 768) : EReal := m ((c : Thread nD τ).loc main_arg3) (ix1 j)
def mus (j : Fin 1792) : EReal := m ((c : Thread nD τ).loc main_arg4) (ix1 j)

/-- Row `n` projected, and the row before it: zero at a sequence's start. -/
def here (n : Fin 16384) (j : Fin 1792) : EReal := cols (xs m c n) (gs m c) (ws m c) ⟨j.val, by omega⟩
def above (n : Fin 16384) (j : Fin 1792) : EReal := if n.val % 8192 = 0 then 0 else here m c ⟨n.val - 1, by omega⟩ j

/-- Row `n` of the two results. -/
def left (n : Fin 16384) (j : Fin 1792) : EReal := blend (here m c n j) (above m c n j) (mus m c j)
def right (n : Fin 16384) (j : Fin 768) : EReal := cols (xs m c n) (gs m c) (ws m c) ⟨1792 + j.val, by omega⟩ + bs m c j

theorem x_read (r k : Fin 1024) : iblk m c 0 t (ix2 r k) = xs m c ⟨1024 * t.val + r.val, by have := tN t; omega⟩ k := by
  unfold xs
  blk_ext [iblk, V, idx t]

/-- The vectors, each as a matrix of one row, and the matrix with its format changed. -/
theorem g_row : V m c main_v1 = shapeCast S1x1024 (m ((c : Thread nD τ).loc main_arg1)) shapeCasts_S1024_S1x1024 := by
  unfold_abbrev_sides
  after_results
  rfl

theorem w_mat (k : Fin 1024) (l : Fin 2560) : V m c main_v2 (ix2 k l) = (m ((c : Thread nD τ).loc main_arg2) (ix2 k l) : EReal) := by
  unfold_abbrev_sides
  after_results
  rfl

theorem b_row : V m c main_v0 = shapeCast S1x768 (m ((c : Thread nD τ).loc main_arg3)) shapeCasts_S768_S1x768 := by
  unfold_abbrev_sides
  after_results
  rfl

theorem mu_row : V m c main_v3 = shapeCast S1x1792 (m ((c : Thread nD τ).loc main_arg4)) shapeCasts_S1792_S1x1792 := by
  unfold_abbrev_sides
  after_results
  rfl

theorem g_read (k : Fin 1024) : iblk m c 1 t (ix2 0 k) = gs m c k := by
  unfold gs
  have e : iblk m c 1 t (ix2 0 k) = V m c main_v1 (ix2 0 k) := by
    blk_ext [iblk, idx t]
  rw [e, g_row]
  pointwise

theorem w_read (k : Fin 1024) (l : Fin 2560) : iblk m c 2 t (ix2 k l) = ws m c k l := by
  unfold ws
  have e : iblk m c 2 t (ix2 k l) = V m c main_v2 (ix2 k l) := by
    blk_ext [iblk, idx t]
  rw [e, w_mat]

theorem b_read (j : Fin 768) : iblk m c 3 t (ix2 0 j) = bs m c j := by
  unfold bs
  have e : iblk m c 3 t (ix2 0 j) = V m c main_v0 (ix2 0 j) := by
    blk_ext [iblk, idx t]
  rw [e, b_row]
  pointwise

theorem mu_read (j : Fin 1792) : iblk m c 4 t (ix2 0 j) = mus m c j := by
  unfold mus
  have e : iblk m c 4 t (ix2 0 j) = V m c main_v3 (ix2 0 j) := by
    blk_ext [iblk, idx t]
  rw [e, mu_row]
  pointwise

/-- A point's block holds its rows projected. -/
theorem block_apply (r : Fin 1024) (j : Fin 1792) : block m c t (ix2 r j) = here m c ⟨1024 * t.val + r.val, by have := tN t; omega⟩ j := by
  unfold here block
  rw [left_apply]
  simp only [x_read, g_read, w_read]

/-- The first output's block. -/
theorem first_apply (r : Fin 1024) (j : Fin 1792) : first m c t (ix2 r j) = left m c ⟨1024 * t.val + r.val, by have := tN t; omega⟩ j := by
  have ht := tN t
  unfold first left above
  by_cases h : r.val = 0
  · obtain rfl : r = 0 := Fin.ext h
    rw [blend_top, starts_eq, last_apply, block_apply, block_apply, mu_read]
    by_cases h8 : t.val % 8 = 0
    · rw [if_pos h8, if_pos (by simp; omega)]; rfl
    · rw [if_neg h8, if_neg (by simp; omega)]
      refine congrArg (fun q => blend _ q _) (congrArg (fun n => here m c n j) (Fin.ext ?_))
      simp [pred]; omega
  · rw [blend_below (h := h), block_apply, block_apply, mu_read, if_neg (by simp; omega)]
    refine congrArg (fun q => blend _ q _) (congrArg (fun n => here m c n j) (Fin.ext ?_))
    simp; omega

/-- The second's. -/
theorem second_apply (r : Fin 1024) (j : Fin 768) : second m c t (ix2 r j) = right m c ⟨1024 * t.val + r.val, by have := tN t; omega⟩ j := by
  unfold second right
  rw [right_apply]
  simp only [x_read, g_read, w_read, b_read]

/-- The first output array after the run. -/
theorem left_array : (dats m 0 c).arrAt 5 cfg0.N = fun i => left m c (i 0) (i 1) := by
  refine (dats m 0 c).arrAt_eq_of_covers 5 _ (by decide +kernel) fun t hf y => ?_
  have h0 : (y 0).val < 1024 := (y 0).isLt
  have h1 : (y 1).val < 1792 := (y 1).isLt
  have e0 : ((cfg0.win 5).blk t).view.emb y 0 = (⟨1024 * t.val + (y 0).val, by have := tN t; omega⟩ : Fin 16384) := by
    refine Fin.ext ?_
    blk_simp [idx t]
    have := (idx t).2.2.2.2.2.1
    simp [this]; omega
  have e1 : ((cfg0.win 5).blk t).view.emb y 1 = (⟨(y 1).val, h1⟩ : Fin 1792) := by
    refine Fin.ext ?_
    blk_simp [idx t]
  rw [show left m c (((cfg0.win 5).blk t).view.emb y 0) (((cfg0.win 5).blk t).view.emb y 1) = left m c ⟨1024 * t.val + (y 0).val, by have := tN t; omega⟩ ⟨(y 1).val, h1⟩ from
    congrArg₂ (left m c) e0 e1]
  blk_simp
  rw [after5]
  have hy : y = ix2 (⟨(y 0).val, h0⟩ : Fin 1024) ⟨(y 1).val, h1⟩ := by ext a; fin_cases a <;> rfl
  exact (congrArg (first m c t) hy).trans (first_apply m c t _ _)

/-- The second's. -/
theorem right_array : (dats m 0 c).arrAt 6 cfg0.N = fun i => right m c (i 0) (i 1) := by
  refine (dats m 0 c).arrAt_eq_of_covers 6 _ (by decide +kernel) fun t hf y => ?_
  have h0 : (y 0).val < 1024 := (y 0).isLt
  have h1 : (y 1).val < 768 := (y 1).isLt
  have e0 : ((cfg0.win 6).blk t).view.emb y 0 = (⟨1024 * t.val + (y 0).val, by have := tN t; omega⟩ : Fin 16384) := by
    refine Fin.ext ?_
    blk_simp [idx t]
    have := (idx t).2.2.2.2.2.2
    simp [this]; omega
  have e1 : ((cfg0.win 6).blk t).view.emb y 1 = (⟨(y 1).val, h1⟩ : Fin 768) := by
    refine Fin.ext ?_
    blk_simp [idx t]
  rw [show right m c (((cfg0.win 6).blk t).view.emb y 0) (((cfg0.win 6).blk t).view.emb y 1) = right m c ⟨1024 * t.val + (y 0).val, by have := tN t; omega⟩ ⟨(y 1).val, h1⟩ from
    congrArg₂ (right m c) e0 e1]
  blk_simp
  rw [after6]
  have hy : y = ix2 (⟨(y 0).val, h0⟩ : Fin 1024) ⟨(y 1).val, h1⟩ := by ext a; fin_cases a <;> rfl
  exact (congrArg (second m c t) hy).trans (second_apply m c t _ _)

/-- The run with its two results named. -/
theorem results : θ_run defs (onTc (τ := τ) (main (F := Ideal))) ⟨m, fun _ => 0, ρ⟩ fun r => ∀ c : Dev nD,
      r.2.mem ((c : Thread nD τ).loc main_v4_0) = (fun i => left m c (i 0) (i 1))
      ∧ r.2.mem ((c : Thread nD τ).loc main_v4_1) = (fun i => right m c (i 0) (i 1)) :=
  (θ_run defs _ _).mono (fun _ h c => ⟨((h c).1 5).trans (left_array m c), ((h c).1 6).trans (right_array m c)⟩) (run_main m ρ)

end Cert.InProjIdeal.Carry

end
-- ==== Proof.InProjRef.lean ====
/- What the input projection's reference computes. -/
module

public import proofs.«01_k».proof.Defs
public import proofs.«01_k».proof.Proof.Gen.InProjRefIdeal.Run
public import proofs.«01_k».proof.Proof.Gen.InProjRefIdeal.Read
public import proofs.«01_k».proof.Proof.InProjBlock
public import Idealize.ShloMosaic.Lib.KernelVsHost

@[expose] public section

set_option maxRecDepth 16384

noncomputable section

namespace Cert.InProjRefIdeal.Shift

open Cert.InProjRefIdeal Cert.InProjRefIdeal.Gen Cert.InProjRefIdeal.Read Cert.FfnMath Cert.InProjMath Idealize.ShloMosaic Idealize.ShloMosaic.TcCoe Idealize.SL.Sem

variable (x0 : (⟨S16384x1024, .f32⟩ : BufTy).Contents (Elt Ideal)) (x1 : (⟨S1024, .f32⟩ : BufTy).Contents (Elt Ideal)) (x2 : (⟨S1024x2560, .f32⟩ : BufTy).Contents (Elt Ideal))
  (x3 : (⟨S768, .f32⟩ : BufTy).Contents (Elt Ideal)) (x4 : (⟨S1792, .f32⟩ : BufTy).Contents (Elt Ideal)) (n : Fin 16384) (b : Fin 2) (s : Fin 8192)

/-- The sum of a row's squares. -/
theorem squares (k : Fin 1) : val_main_v2 (F := Ideal) x0 (ix2 n k) = ∑ i : Fin 1024, x0 (ix2 n i) * x0 (ix2 n i) := by
  pointwise [val_main_v2]
  rw [val_main_v1_apply]
  have e0 : val_main_cst (F := Ideal) (Shape.Idx.first h_S_) = 0 := by rw [val_main_cst_apply]; exact Ideal.ofBits_zero_f32
  rw [e0, zero_add]
  refine Finset.sum_congr rfl fun i _ => ?_
  have e : idx_main_v1 (ix1 n) i = ix2 n i := funext fun a => by match a with | ⟨0, _⟩ => rfl | ⟨1, _⟩ => rfl
  rw [e]; rfl

/-- A row normed. -/
theorem norm_apply (l : Fin 1024) : val_main_v12 (F := Ideal) x0 x1 (ix2 n l) = rms (fun k => x0 (ix2 n k)) (fun k => x1 (ix1 k)) l := by
  pointwise [val_main_v12, val_main_v11, val_main_v10, val_main_v9, val_main_v8, val_main_v7, val_main_v6, val_main_v5, val_main_v4, val_main_v3, val_main_cst_0, val_main_cst_1]
  rw [squares]; rfl

/-- A row projected. -/
theorem cols_apply (j : Fin 2560) : val_main_v13 (F := Ideal) x0 x1 x2 (ix2 n j) = cols (fun k => x0 (ix2 n k)) (fun k => x1 (ix1 k)) (fun k l => x2 (ix2 k l)) j := by
  pointwise [val_main_v13]
  simp only [norm_apply]
  rfl

/-- The same by sequence and place. -/
theorem split_apply (j : Fin 2560) : val_main_v14 (F := Ideal) x0 x1 x2 (ix3 b s j)
    = cols (fun k => x0 (ix2 ⟨8192 * b.val + s.val, by omega⟩ k)) (fun k => x1 (ix1 k)) (fun k l => x2 (ix2 k l)) j := by
  rw [← cols_apply, val_main_v14_apply]
  refine congrArg (val_main_v13 (F := Ideal) x0 x1 x2) (funext fun a => ?_)
  match a with
  | ⟨0, _⟩ => exact Fin.ext (by show ((b.val * 8192 + s.val) * 2560 + j.val) / 2560 = 8192 * b.val + s.val; omega)
  | ⟨1, _⟩ => exact Fin.ext (by show ((b.val * 8192 + s.val) * 2560 + j.val) % 2560 = j.val; omega)

/-- The first mixer's columns. -/
theorem left_apply (j : Fin 1792) : val_main_v19 (F := Ideal) x0 x1 x2 (ix3 b s j) = val_main_v14 (F := Ideal) x0 x1 x2 (ix3 b s ⟨j.val, by omega⟩) := by
  pointwise [val_main_v19]

/-- The columns one place earlier: zero at a sequence's start. -/
theorem before_apply (j : Fin 1792) : val_main_v21 (F := Ideal) x0 x1 x2 (ix3 b s j)
    = if s.val = 0 then 0 else val_main_v19 (F := Ideal) x0 x1 x2 (ix3 b ⟨s.val - 1, by omega⟩ j) := by
  rw [val_main_v21_apply]
  unfold val_main_v20
  split_ifs with h
  · refine (pad_apply_of_not_inside _ _ _ _ _ _ _ _ (1 : Fin 3) ?_).trans ?_
    · rintro ⟨h1, -⟩
      change 1 ≤ s.val at h1
      omega
    · rw [val_main_call0_v0_apply, val_main_c_apply]
      simp [FloatOps.sitofp]
  · refine pad_apply_of_inside _ _ _ _ _ _ _ _ (ix3 b ⟨s.val - 1, by omega⟩ j) fun a => ?_
    match a with
    | ⟨0, _⟩ => show b.val = 0 + b.val * (0 + 1); omega
    | ⟨1, _⟩ => show s.val = 1 + (s.val - 1) * (0 + 1); omega
    | ⟨2, _⟩ => show j.val = 0 + j.val * (0 + 1); omega

/-- A row's place among the sequences. -/
theorem place (j : Fin 1792) : idx_main_v27 (ix2 n j) = ix3 ⟨n.val / 8192, by omega⟩ ⟨n.val % 8192, by omega⟩ j := by
  refine funext fun a => ?_
  match a with
  | ⟨0, _⟩ => exact Fin.ext (by show (n.val * 1792 + j.val) / 14680064 = n.val / 8192; omega)
  | ⟨1, _⟩ => exact Fin.ext (by show (n.val * 1792 + j.val) / 1792 % 8192 = n.val % 8192; omega)
  | ⟨2, _⟩ => exact Fin.ext (by show (n.val * 1792 + j.val) % 1792 = j.val; omega)

theorem place' (j : Fin 768) : idx_main_v28 (ix2 n j) = ix3 ⟨n.val / 8192, by omega⟩ ⟨n.val % 8192, by omega⟩ j := by
  refine funext fun a => ?_
  match a with
  | ⟨0, _⟩ => exact Fin.ext (by show (n.val * 768 + j.val) / 6291456 = n.val / 8192; omega)
  | ⟨1, _⟩ => exact Fin.ext (by show (n.val * 768 + j.val) / 768 % 8192 = n.val % 8192; omega)
  | ⟨2, _⟩ => exact Fin.ext (by show (n.val * 768 + j.val) % 768 = j.val; omega)

/-- The first result. -/
theorem first_apply (j : Fin 1792) : val_main_v27 (F := Ideal) x0 x1 x2 x4 (ix2 n j)
    = blend (cols (fun k => x0 (ix2 n k)) (fun k => x1 (ix1 k)) (fun k l => x2 (ix2 k l)) ⟨j.val, by omega⟩)
      (if n.val % 8192 = 0 then 0 else cols (fun k => x0 (ix2 ⟨n.val - 1, by omega⟩ k)) (fun k => x1 (ix1 k)) (fun k l => x2 (ix2 k l)) ⟨j.val, by omega⟩) (x4 (ix1 j)) := by
  rw [val_main_v27_apply, place]
  pointwise [val_main_v26, val_main_v25, val_main_v24, val_main_v23, val_main_v22]
  rw [before_apply, left_apply, split_apply]
  have e : (⟨8192 * (n.val / 8192) + n.val % 8192, by omega⟩ : Fin 16384) = n := Fin.ext (by simp; omega)
  simp only [e]
  by_cases h : n.val % 8192 = 0
  · simp only [h, if_true]; rfl
  · have e' : (⟨8192 * (n.val / 8192) + (n.val % 8192 - 1), by omega⟩ : Fin 16384) = ⟨n.val - 1, by omega⟩ := Fin.ext (by simp; omega)
    simp only [h, if_false, left_apply, split_apply, e']
    rfl

/-- The second. -/
theorem second_apply (j : Fin 768) : val_main_v28 (F := Ideal) x0 x1 x2 x3 (ix2 n j)
    = cols (fun k => x0 (ix2 n k)) (fun k => x1 (ix1 k)) (fun k l => x2 (ix2 k l)) ⟨1792 + j.val, by omega⟩ + x3 (ix1 j) := by
  rw [val_main_v28_apply, place']
  pointwise [val_main_v18, val_main_v17, val_main_v16, val_main_v15]
  rw [split_apply]
  have e : (⟨8192 * (n.val / 8192) + n.val % 8192, by omega⟩ : Fin 16384) = n := Fin.ext (by simp; omega)
  simp only [e]

end Cert.InProjRefIdeal.Shift

end
-- ==== Proof.InProjEq.lean ====
/- The claim about the input projection: it ends with what its reference ends with. -/
module

public import proofs.«01_k».proof.Proof.InProjArray
public import proofs.«01_k».proof.Proof.InProjRef

@[expose] public section

noncomputable section

namespace Cert.InProjEq

open Idealize.ShloMosaic Idealize.ShloMosaic.TcCoe Idealize.SL.Sem

/-- The claim, of both results. -/
theorem algebraic : Cert.algebraic_InProjIdeal_InProjRefIdeal := by
  intro m g m' g' _ hargs
  refine ⟨fun c i => Cert.InProjIdeal.Carry.left m c (i 0) (i 1), fun c i => Cert.InProjIdeal.Carry.right m c (i 0) (i 1), ?_, ?_⟩
  · refine (θ_run Cert.InProjIdeal.defs _ _).mono (fun r h c => ⟨(h.1 c).1, (h.1 c).2, h.2.1 c⟩)
      (θ_run_and (Cert.InProjIdeal.Carry.results m g) (Cert.InProjIdeal.Carry.frame m g))
  · refine (θ_run Cert.InProjRefIdeal.defs _ _).mono (fun r h c => ⟨(h c).1.trans ?_, (h c).2.1.trans ?_, (h c).2.2⟩) (Cert.InProjRefIdeal.Value.run m' g')
    all_goals obtain ⟨h0, h1, h2, h3, h4⟩ := hargs c
    · rw [Cert.InProjRefIdeal.Read.val_main_v27_eq, h0, h1, h2, h4]
      funext i
      have hi : i = ix2 (i 0) (i 1) := funext fun a => by match a with | ⟨0, _⟩ => rfl | ⟨1, _⟩ => rfl
      exact (congrArg _ hi).trans (Cert.InProjRefIdeal.Shift.first_apply _ _ _ _ (i 0) (i 1))
    · rw [Cert.InProjRefIdeal.Read.val_main_v28_eq, h0, h1, h2, h3]
      funext i
      have hi : i = ix2 (i 0) (i 1) := funext fun a => by match a with | ⟨0, _⟩ => rfl | ⟨1, _⟩ => rfl
      exact (congrArg _ hi).trans (Cert.InProjRefIdeal.Shift.second_apply _ _ _ _ (i 0) (i 1))

end Cert.InProjEq

end
-- ==== Proof.MixMath.lean ====
/- The parts of the RWKV-7 mixer that go around its recurrence, as arithmetic on extended reals: the learning rate, the key, the output gate and the bonus of
   the current token, of one row of the shifted columns. -/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.MixMath

open Idealize.ShloMosaic

/-- A channel's learning rate: the logistic of its offset and the low-rank product. -/
def rate (p : Fin 1792 → EReal) (a : Fin 512 → EReal) (w : Fin 64 → Fin 512 → EReal) (j : Fin 512) : EReal :=
  Ideal.logistic (a j + ∑ i : Fin 64, p ⟨1600 + i.val, by omega⟩ * w i j)

/-- A channel's key, scaled by its rate. -/
def key (p : Fin 1792 → EReal) (a : Fin 512 → EReal) (w : Fin 64 → Fin 512 → EReal) (s : Fin 512 → EReal) (j : Fin 512) : EReal :=
  p ⟨512 + j.val, by omega⟩ * (1 + (rate p a w j - 1) * s j)

/-- A channel's share of its head's bonus. -/
def share (p : Fin 1792 → EReal) (a : Fin 512 → EReal) (w : Fin 64 → Fin 512 → EReal) (s q : Fin 512 → EReal) (j : Fin 512) : EReal :=
  p ⟨j.val, by omega⟩ * key p a w s j * q j

/-- The head's bonus times the channel's value. -/
def bonus (p : Fin 1792 → EReal) (a : Fin 512 → EReal) (w : Fin 64 → Fin 512 → EReal) (s q : Fin 512 → EReal) (j : Fin 512) : EReal :=
  (∑ i : Fin 64, share p a w s q ⟨64 * (j.val / 64) + i.val, by omega⟩) * p ⟨1024 + j.val, by omega⟩

/-- A channel's output gate. -/
def gate (p : Fin 1792 → EReal) (w : Fin 128 → Fin 512 → EReal) (j : Fin 512) : EReal := ∑ i : Fin 128, Ideal.logistic (p ⟨1664 + i.val, by omega⟩) * w i j

/-- A sum over two heads' channels that keeps the channels of one head. -/
theorem head_sum (f : Fin 512 → EReal) (p : Fin 4) (i : Fin 128) :
    (∑ l : Fin 128, f ⟨128 * p.val + l.val, by omega⟩ * if l.val / 64 = i.val / 64 then 1 else 0) = ∑ d : Fin 64, f ⟨64 * ((128 * p.val + i.val) / 64) + d.val, by omega⟩ := by
  rw [Fin.sum_univ_two_halves 64 64 rfl]
  by_cases h : i.val < 64
  · refine (congrArg₂ (· + ·) (Finset.sum_congr rfl fun d _ => ?_) (Finset.sum_eq_zero fun d _ => ?_)).trans (add_zero _)
    · rw [if_pos (by simp only; omega), mul_one]
      exact congrArg f (Fin.ext (by simp only; omega))
    · rw [if_neg (by simp only; omega), mul_zero]
  · refine (congrArg₂ (· + ·) (Finset.sum_eq_zero fun d _ => ?_) (Finset.sum_congr rfl fun d _ => ?_)).trans (zero_add _)
    · rw [if_neg (by simp only; omega), mul_zero]
    · rw [if_pos (by simp only; omega), mul_one]
      exact congrArg f (Fin.ext (by simp only; omega))

/-- The word of one. -/
theorem one_word : Ideal.ofBits .f32 0x3F800000#32 = 1 := Ideal.ofBits_one_f32

end Cert.MixMath

end
-- ==== Proof.MixPay.lean ====
/- The mixer's bonus and gate as the kernel's body computes them on a block of rows. -/
module

public import proofs.«01_k».proof.Proof.MixMath
public import proofs.«01_k».proof.Proof.Gen.MixIdeal.Skeleton
public import Idealize.ShloMosaic.Lib.Pointwise

@[expose] public section

set_option maxRecDepth 16384

noncomputable section

namespace Cert.MixIdeal.Mix

open Cert.MixIdeal Cert.MixIdeal.Gen Cert.MixMath Idealize.ShloMosaic Idealize.ShloMosaic.TcCoe Idealize.SL.Sem

variable (r j : Fin 512)

/-- The gate. -/
theorem gate_apply (x : Vec Ideal S512x1792 .f32) (w : Vec Ideal S128x512 .bf16) :
    k0_pay7 x w (ix2 r j) = gate (fun k => x (ix2 r k)) (fun i k => w (ix2 i k)) j := by
  pointwise [k0_pay7]
  rfl

/-- The learning rate, the low-rank product over the decay's columns as well. -/
theorem rate_apply (x : Vec Ideal S512x1792 .f32) (a : Vec Ideal S1x512 .f32) (w : Vec Ideal S128x512 .bf16) :
    k0_pay6 x a w (ix2 r j) = Ideal.logistic (a (ix2 0 j) + ∑ i : Fin 128, x (ix2 r ⟨1536 + i.val, by omega⟩) * w (ix2 i j)) := by
  pointwise [k0_pay6, k0_pay4]

/-- The key. -/
theorem key_apply (k a : FVec Ideal S512x512 .f32) (s : Vec Ideal S1x512 .f32) :
    k0_pay10 k a s (ix2 r j) = k (ix2 r j) * (1 + (a (ix2 r j) - 1) * s (ix2 0 j)) := by
  rw [← one_word]
  pointwise [k0_pay10]

section Heads
variable (f0 f1 f2 f3 : FVec Ideal S512x128 .bf16) (g0 g1 g2 g3 : FVec Ideal S512x128 .f32) (t : FVec Ideal S512x512 .bf16) (e : FVec Ideal S128x128 .bf16)

/-- Four blocks of lanes laid under one another, and four blocks laid beside one another. -/
def under : FVec Ideal S2048x128 .bf16 :=
  concatenate S2048x128 0 [⟨S512x128, f0⟩, ⟨S512x128, f1⟩, ⟨S512x128, f2⟩, ⟨S512x128, f3⟩] concatenates_S512x128_S512x128_S512x128_S512x128_S2048x128_d0

def beside : FVec Ideal S512x512 .f32 :=
  concatenate S512x512 1 [⟨S512x128, g0⟩, ⟨S512x128, g1⟩, ⟨S512x128, g2⟩, ⟨S512x128, g3⟩] concatenates_S512x128_S512x128_S512x128_S512x128_S512x512_d1

theorem under_apply (p : Fin 4) (i : Fin 128) : under f0 f1 f2 f3 (ix2 ⟨512 * p.val + r.val, by omega⟩ i) = (![f0, f1, f2, f3] p) (ix2 r i) := by
  show concatenate S2048x128 0 (List.ofFn fun n : Fin 4 => (⟨S512x128, ![f0, f1, f2, f3] n⟩ : (s : Shape) × (s.Idx → EReal))) _ _ = _
  refine concatenate_ofFn_apply (t := S2048x128) 0 ![f0, f1, f2, f3] _ rfl 512 rfl _ p ?_ (ix2 r i) ?_ (fun b hb => ?_)
  · show (512 * p.val + r.val) / 512 = p.val; omega
  · show r.val = (512 * p.val + r.val) % 512; omega
  match b with | ⟨0, _⟩ => exact absurd rfl hb | ⟨1, _⟩ => rfl

theorem beside_apply (p : Fin 4) (i : Fin 128) : beside g0 g1 g2 g3 (ix2 r ⟨128 * p.val + i.val, by omega⟩) = (![g0, g1, g2, g3] p) (ix2 r i) := by
  show concatenate S512x512 1 (List.ofFn fun n : Fin 4 => (⟨S512x128, ![g0, g1, g2, g3] n⟩ : (s : Shape) × (s.Idx → EReal))) _ _ = _
  refine concatenate_ofFn_apply (t := S512x512) 1 ![g0, g1, g2, g3] _ rfl 128 rfl _ p ?_ (ix2 r i) ?_ (fun b hb => ?_)
  · show (128 * p.val + i.val) / 128 = p.val; omega
  · show i.val = (128 * p.val + i.val) % 128; omega
  match b with | ⟨0, _⟩ => rfl | ⟨1, _⟩ => exact absurd rfl hb

/-- The blocks of lanes stacked, multiplied by a matrix and laid out again. -/
def heads : FVec Ideal S512x512 .f32 :=
  let y := matmul dot_S2048x128_S128x128_S2048x128_1_0_0_1_n_n none
    (under (extractStridedSlice S512x128 ![0, 0] t slices_S512x512_o0_0_S512x128) (extractStridedSlice S512x128 ![0, 128] t slices_S512x512_o0_128_S512x128)
      (extractStridedSlice S512x128 ![0, 256] t slices_S512x512_o0_256_S512x128) (extractStridedSlice S512x128 ![0, 384] t slices_S512x512_o0_384_S512x128)) e
    (constant S2048x128 .f32 0x00000000#32)
  beside (extractStridedSlice S512x128 ![0, 0] y slices_S2048x128_o0_0_S512x128) (extractStridedSlice S512x128 ![512, 0] y slices_S2048x128_o512_0_S512x128)
    (extractStridedSlice S512x128 ![1024, 0] y slices_S2048x128_o1024_0_S512x128) (extractStridedSlice S512x128 ![1536, 0] y slices_S2048x128_o1536_0_S512x128)

theorem product_apply (x : FVec Ideal S2048x128 .bf16) (n : Fin 2048) (i : Fin 128) :
    matmul dot_S2048x128_S128x128_S2048x128_1_0_0_1_n_n none x e (constant S2048x128 .f32 0x00000000#32) (ix2 n i) = ∑ k : Fin 128, x (ix2 n k) * e (ix2 k i) := by
  pointwise

/-- Each block of lanes is multiplied by the matrix. -/
theorem heads_apply (p : Fin 4) (i : Fin 128) : heads t e (ix2 r ⟨128 * p.val + i.val, by omega⟩) = ∑ k : Fin 128, t (ix2 r ⟨128 * p.val + k.val, by omega⟩) * e (ix2 k i) := by
  unfold heads
  rw [beside_apply]
  have hy := product_apply e
  generalize hx : under (extractStridedSlice S512x128 ![0, 0] t slices_S512x512_o0_0_S512x128) (extractStridedSlice S512x128 ![0, 128] t slices_S512x512_o0_128_S512x128)
      (extractStridedSlice S512x128 ![0, 256] t slices_S512x512_o0_256_S512x128) (extractStridedSlice S512x128 ![0, 384] t slices_S512x512_o0_384_S512x128) = x
  specialize hy x
  generalize matmul dot_S2048x128_S128x128_S2048x128_1_0_0_1_n_n none x e (constant S2048x128 .f32 0x00000000#32) = y at hy ⊢
  have hs (k : Fin 128) : x (ix2 ⟨512 * p.val + r.val, by omega⟩ k) = t (ix2 r ⟨128 * p.val + k.val, by omega⟩) := by
    rw [← hx, under_apply]
    fin_cases p <;> pointwise
  simp only [← hs, ← hy]
  fin_cases p <;> pointwise
end Heads

/-- A head's bonus, as a product with the matrix that adds up a head's channels. -/
theorem bonus_apply (q k v a : FVec Ideal S512x512 .f32) (e : FVec Ideal S128x128 .bf16) (s b : Vec Ideal S1x512 .f32) (p : Fin 4) (i : Fin 128) :
    k0_pay12 q k v a e s b (ix2 r ⟨128 * p.val + i.val, by omega⟩)
      = (∑ l : Fin 128, q (ix2 r ⟨128 * p.val + l.val, by omega⟩) * k0_pay10 k a s (ix2 r ⟨128 * p.val + l.val, by omega⟩) * b (ix2 0 ⟨128 * p.val + l.val, by omega⟩)
          * e (ix2 l i)) * v (ix2 r ⟨128 * p.val + i.val, by omega⟩) := by
  generalize hT : (truncf .bf16 (mulf (mulf q (k0_pay10 k a s)) (broadcastTo S512x512 (shapeCast S1x512 b shapeCasts_S1x512_S1x512) broadcasts_S1x512_S512x512)) bitsLt_bf16_f32 : FVec Ideal S512x512 .bf16) = T
  have ht (j : Fin 512) : T (ix2 r j) = q (ix2 r j) * k0_pay10 k a s (ix2 r j) * b (ix2 0 j) := by
    rw [← hT]
    generalize k0_pay10 k a s = K
    pointwise
  have e1 : k0_pay12 q k v a e s b = truncf .bf16 (mulf (heads T e) v) bitsLt_bf16_f32 := by rw [← hT]; rfl
  rw [e1]
  have e2 (h : FVec Ideal S512x512 .f32) (j : Fin 512) : (truncf .bf16 (mulf h v) bitsLt_bf16_f32 (ix2 r j) : EReal) = h (ix2 r j) * v (ix2 r j) := by pointwise
  refine (e2 (heads T e) _).trans ?_
  rw [heads_apply]
  simp only [ht]

end Cert.MixIdeal.Mix

end
-- ==== Proof.MixBlock.lean ====
/- What the kernel's body leaves in the blocks of the bonus and of the gate at one grid point. -/
module

public import proofs.«01_k».proof.Proof.MixPay
public import proofs.«01_k».proof.Proof.Gen.MixIdeal.Value
public import Idealize.ShloMosaic.Lib.Pipeline.ValueKit
public import Idealize.ShloMosaic.Lib.Pipeline.ReadBack

@[expose] public section

set_option maxRecDepth 16384

noncomputable section

namespace Cert.MixIdeal.Mix

open Cert.MixIdeal Cert.MixIdeal.Gen Cert.MixMath Idealize.ShloMosaic Idealize.ShloMosaic.TcCoe Idealize.SL.Sem

variable (m : (ℓ : Loc nD τ sig) → Buf (Elt Ideal) ℓ) (c : Dev nD) (t : Fin cfg0.N)

/-- The gate's block. -/
theorem gate_out : (outsAt0 m c t).2.2.2.2.2 = k0_pay7 (iblk m c 0 t) (iblk m c 5 t) := by
  unfold outsAt0
  frame_out

/-- The bonus's block. -/
theorem bonus_out : (outsAt0 m c t).2.2.2.2.1 = k0_pay12 (k0_pay1 (iblk m c 0 t)) (k0_pay2 (iblk m c 0 t)) (k0_pay3 (iblk m c 0 t))
    (k0_pay6 (iblk m c 0 t) (iblk m c 3 t) (iblk m c 4 t)) (k0_pay8 (iblk m c 9 t)) (iblk m c 7 t) (iblk m c 8 t) := by
  unfold outsAt0
  frame_out

variable (r : Fin 512)

/-- The body's rate is the rate where its matrix has no entries for the decay's columns. -/
theorem rate_eq (x : Vec Ideal S512x1792 .f32) (a : Vec Ideal S1x512 .f32) (w : Vec Ideal S128x512 .bf16) (u : Fin 64 → Fin 512 → EReal)
    (hw : ∀ i j, w (ix2 i j) = if h : i.val < 64 then 0 else u ⟨i.val - 64, by omega⟩ j) (j : Fin 512) :
    k0_pay6 x a w (ix2 r j) = rate (fun k => x (ix2 r k)) (fun k => a (ix2 0 k)) u j := by
  rw [rate_apply]
  unfold rate
  refine congrArg (fun z => Ideal.logistic (a (ix2 0 j) + z)) ?_
  rw [Fin.sum_univ_two_halves 64 64 rfl]
  simp only [hw]
  refine (congrArg₂ (· + ·) (Finset.sum_eq_zero fun i _ => ?_) (Finset.sum_congr rfl fun i _ => ?_)).trans (zero_add _)
  · rw [dif_pos (by simp), mul_zero]
  · rw [dif_neg (by simp)]
    exact congrArg₂ (· * ·) (congrArg (fun k => x (ix2 r k)) (Fin.ext (show 1536 + (64 + i.val) = 1600 + i.val by omega)))
      (congrArg (fun k => u k j) (Fin.ext (show 64 + i.val - 64 = i.val by omega)))

/-- The body's bonus is the bonus where its second matrix adds up a head's channels. -/
theorem bonus_eq (x : Vec Ideal S512x1792 .f32) (a s b : Vec Ideal S1x512 .f32) (w : Vec Ideal S128x512 .bf16) (e : Vec Ideal S128x128 .bf16) (u : Fin 64 → Fin 512 → EReal)
    (hw : ∀ i j, w (ix2 i j) = if h : i.val < 64 then 0 else u ⟨i.val - 64, by omega⟩ j) (he : ∀ l i : Fin 128, e (ix2 l i) = if l.val / 64 = i.val / 64 then 1 else 0) (j : Fin 512) :
    k0_pay12 (k0_pay1 x) (k0_pay2 x) (k0_pay3 x) (k0_pay6 x a w) (k0_pay8 e) s b (ix2 r j)
      = bonus (fun k => x (ix2 r k)) (fun k => a (ix2 0 k)) u (fun k => s (ix2 0 k)) (fun k => b (ix2 0 k)) j := by
  obtain ⟨p, i, rfl⟩ : ∃ p : Fin 4, ∃ i : Fin 128, j = ⟨128 * p.val + i.val, by omega⟩ := ⟨⟨j.val / 128, by omega⟩, ⟨j.val % 128, by omega⟩, Fin.ext (by simp only; omega)⟩
  have e8 (l i : Fin 128) : k0_pay8 e (ix2 l i) = e (ix2 l i) := by pointwise [k0_pay8]
  have e1 (k : Fin 512) : k0_pay1 x (ix2 r k) = x (ix2 r ⟨k.val, by omega⟩) := by pointwise [k0_pay1]
  have e2 (k : Fin 512) : k0_pay2 x (ix2 r k) = x (ix2 r ⟨512 + k.val, by omega⟩) := by pointwise [k0_pay2]
  have e3 (k : Fin 512) : k0_pay3 x (ix2 r k) = x (ix2 r ⟨1024 + k.val, by omega⟩) := by pointwise [k0_pay3]
  rw [bonus_apply]
  have hs (l : Fin 128) : k0_pay1 x (ix2 r ⟨128 * p.val + l.val, by omega⟩) * k0_pay10 (k0_pay2 x) (k0_pay6 x a w) s (ix2 r ⟨128 * p.val + l.val, by omega⟩) * b (ix2 0 ⟨128 * p.val + l.val, by omega⟩)
      = share (fun k => x (ix2 r k)) (fun k => a (ix2 0 k)) u (fun k => s (ix2 0 k)) (fun k => b (ix2 0 k)) ⟨128 * p.val + l.val, by omega⟩ := by
    rw [key_apply, rate_eq r x a w u hw, e1, e2]
    rfl
  simp only [hs, e8, he, e3]
  unfold bonus
  refine congrArg (· * x (ix2 r ⟨1024 + (128 * p.val + i.val), by omega⟩)) ?_
  exact head_sum _ p i

end Cert.MixIdeal.Mix

end
-- ==== Proof.MixArray.lean ====
/- The two output arrays of the mixer's bonus and gate. -/
module

public import proofs.«01_k».proof.Proof.MixBlock

@[expose] public section

set_option maxRecDepth 16384

noncomputable section

namespace Cert.MixIdeal.Mix

open Cert.MixIdeal Cert.MixIdeal.Gen Cert.MixMath Idealize.ShloMosaic Idealize.ShloMosaic.TcCoe Idealize.SL.Sem

variable (m : (ℓ : Loc nD τ sig) → Buf (Elt Ideal) ℓ)

theorem tN (t : Fin cfg0.N) : t.val < 32 := Nat.lt_of_lt_of_eq t.isLt (by decide)

theorem idx : ∀ t : Fin cfg0.N, win0_0.index t = ![t.val, 0] ∧ win0_3.index t = ![0, 0] ∧ win0_4.index t = ![0, 0] ∧ win0_5.index t = ![0, 0]
    ∧ win0_7.index t = ![0, 0] ∧ win0_8.index t = ![0, 0] ∧ win0_9.index t = ![0, 0] ∧ win0_14.index t = ![t.val, 0] ∧ win0_15.index t = ![t.val, 0] := by decide +kernel

variable (c : Dev nD) (t : Fin cfg0.N)

/-- The arguments as the launch finds them. -/
def ps (n : Fin 16384) (k : Fin 1792) : EReal := m ((c : Thread nD τ).loc main_arg0) (ix2 n k)
def offs (j : Fin 512) : EReal := m ((c : Thread nD τ).loc main_arg3) (ix1 j)
def lows (i : Fin 64) (j : Fin 512) : EReal := m ((c : Thread nD τ).loc main_arg4) (ix2 i j)
def gts (i : Fin 128) (j : Fin 512) : EReal := m ((c : Thread nD τ).loc main_arg5) (ix2 i j)
def scales (j : Fin 512) : EReal := m ((c : Thread nD τ).loc main_arg7) (ix1 j)
def weights (j : Fin 512) : EReal := m ((c : Thread nD τ).loc main_arg8) (ix2 ⟨j.val / 64, by omega⟩ ⟨j.val % 64, by omega⟩)

/-- Row `n` of the two results. -/
def first (n : Fin 16384) (j : Fin 512) : EReal := bonus (ps m c n) (offs m c) (lows m c) (scales m c) (weights m c) j
def second (n : Fin 16384) (j : Fin 512) : EReal := gate (ps m c n) (gts m c) j

theorem p_read (r : Fin 512) (k : Fin 1792) : iblk m c 0 t (ix2 r k) = ps m c ⟨512 * t.val + r.val, by have := tN t; omega⟩ k := by
  unfold ps
  blk_ext [iblk, V, idx t]

theorem off_row : V m c main_v15 = shapeCast S1x512 (m ((c : Thread nD τ).loc main_arg3)) shapeCasts_S512_S1x512 := by
  unfold_abbrev_sides
  simp only [hostOps0, hostOps0_1, hostOps0_2, List.flatten_cons, List.flatten_nil, List.append_nil, List.cons_append, List.nil_append]
  after_results
  rfl

theorem scale_row : V m c main_v18 = shapeCast S1x512 (m ((c : Thread nD τ).loc main_arg7)) shapeCasts_S512_S1x512 := by
  unfold_abbrev_sides
  simp only [hostOps0, hostOps0_1, hostOps0_2, List.flatten_cons, List.flatten_nil, List.append_nil, List.cons_append, List.nil_append]
  after_results
  rfl

theorem weight_row : V m c main_v19 = shapeCast S1x512 (m ((c : Thread nD τ).loc main_arg8)) shapeCasts_S8x64_S1x512 := by
  unfold_abbrev_sides
  simp only [hostOps0, hostOps0_1, hostOps0_2, List.flatten_cons, List.flatten_nil, List.append_nil, List.cons_append, List.nil_append]
  after_results
  rfl

theorem gate_mat (i : Fin 128) (j : Fin 512) : V m c main_v16 (ix2 i j) = (m ((c : Thread nD τ).loc main_arg5) (ix2 i j) : EReal) := by
  unfold_abbrev_sides
  simp only [hostOps0, hostOps0_1, hostOps0_2, List.flatten_cons, List.flatten_nil, List.append_nil, List.cons_append, List.nil_append]
  after_results
  rfl

/-- The low-rank matrix under as many rows of zeros. -/
theorem low_mat (i : Fin 128) (j : Fin 512) : V m c main_v13 (ix2 i j) = if h : i.val < 64 then (0 : EReal) else m ((c : Thread nD τ).loc main_arg4) (ix2 ⟨i.val - 64, by omega⟩ j) := by
  have e : V m c main_v13 = truncf .bf16 (concatenate S128x512 0 [⟨S64x512, (broadcastInDim S64x512 ![] bcast_S_S64x512 (constant S_ .f32 0x00000000#32 : FVec Ideal S_ .f32) : FVec Ideal S64x512 .f32)⟩,
      ⟨S64x512, m ((c : Thread nD τ).loc main_arg4)⟩] concatenates_S64x512_S64x512_S128x512_d0) bitsLt_bf16_f32 := by
    unfold_abbrev_sides
    simp only [hostOps0, hostOps0_1, hostOps0_2, List.flatten_cons, List.flatten_nil, List.append_nil, List.cons_append, List.nil_append]
    after_results
  rw [e]
  generalize m ((c : Thread nD τ).loc main_arg4) = w
  rw [← Ideal.ofBits_zero_f32]
  pointwise

/-- The head, of the two a block of lanes holds, of each lane. -/
theorem seg_col (i : Fin 128) : V m c main_v1 (ix1 i) = BitVec.ofNat 32 (i.val / 64) := by
  unfold_abbrev_sides
  simp only [hostOps0, hostOps0_1, hostOps0_2, List.flatten_cons, List.flatten_nil, List.append_nil, List.cons_append, List.nil_append]
  after_results
  revert i
  decide +kernel

/-- The matrix that adds up a head's lanes. -/
theorem seg_mat (l i : Fin 128) : V m c main_v7 (ix2 l i) = if l.val / 64 = i.val / 64 then (1 : EReal) else 0 := by
  have e : V m c main_v7 (ix2 l i) = (((IntOp.cmpi .eq (V m c main_v1 (ix1 l)) (V m c main_v1 (ix1 i)) : BitVec 1).toNat : ℝ) : EReal) := by
    unfold_abbrev_sides
    simp only [hostOps0, hostOps0_1, hostOps0_2, List.flatten_cons, List.flatten_nil, List.append_nil, List.cons_append, List.nil_append]
    after_results
    rfl
  rw [e, seg_col, seg_col]
  have hd : ∀ a b : Fin 2, (IntOp.cmpi .eq (BitVec.ofNat 32 a.val) (BitVec.ofNat 32 b.val) : BitVec 1).toNat = if a.val = b.val then 1 else 0 := by decide
  have hl := hd ⟨l.val / 64, by omega⟩ ⟨i.val / 64, by omega⟩
  simp only at hl
  rw [hl]
  split <;> simp

theorem off_read (j : Fin 512) : iblk m c 3 t (ix2 0 j) = offs m c j := by
  unfold offs
  have e : iblk m c 3 t (ix2 0 j) = V m c main_v15 (ix2 0 j) := by
    blk_ext [iblk, idx t]
  rw [e, off_row]
  pointwise

theorem scale_read (j : Fin 512) : iblk m c 7 t (ix2 0 j) = scales m c j := by
  unfold scales
  have e : iblk m c 7 t (ix2 0 j) = V m c main_v18 (ix2 0 j) := by
    blk_ext [iblk, idx t]
  rw [e, scale_row]
  pointwise

theorem weight_read (j : Fin 512) : iblk m c 8 t (ix2 0 j) = weights m c j := by
  unfold weights
  have e : iblk m c 8 t (ix2 0 j) = V m c main_v19 (ix2 0 j) := by
    blk_ext [iblk, idx t]
  rw [e, weight_row]
  refine shapeCast_apply _ _ _ _ ?_
  refine (Shape.rowMajor_val_two (d := ![8, 64]) _).trans (Eq.trans ?_ (Shape.rowMajor_val_two (d := ![1, 512]) _).symm)
  show j.val / 64 * 64 + j.val % 64 = 0 * 512 + j.val
  omega

theorem gate_read (i : Fin 128) (j : Fin 512) : iblk m c 5 t (ix2 i j) = gts m c i j := by
  unfold gts
  have e : iblk m c 5 t (ix2 i j) = V m c main_v16 (ix2 i j) := by
    blk_ext [iblk, idx t]
  rw [e, gate_mat]

theorem low_read (i : Fin 128) (j : Fin 512) : iblk m c 4 t (ix2 i j) = if h : i.val < 64 then (0 : EReal) else lows m c ⟨i.val - 64, by omega⟩ j := by
  have e : iblk m c 4 t (ix2 i j) = V m c main_v13 (ix2 i j) := by
    blk_ext [iblk, idx t]
  rw [e, low_mat]
  rfl

theorem seg_read (l i : Fin 128) : iblk m c 9 t (ix2 l i) = if l.val / 64 = i.val / 64 then (1 : EReal) else 0 := by
  have e : iblk m c 9 t (ix2 l i) = V m c main_v7 (ix2 l i) := by
    blk_ext [iblk, idx t]
  rw [e, seg_mat]

/-- The two output arrays after the run. -/
theorem first_array : (dats m 0 c).arrAt 14 cfg0.N = fun i => first m c (i 0) (i 1) := by
  refine (dats m 0 c).arrAt_eq_of_covers 14 _ (by decide +kernel) fun t hf y => ?_
  have h0 : (y 0).val < 512 := (y 0).isLt
  have h1 : (y 1).val < 512 := (y 1).isLt
  have e0 : ((cfg0.win 14).blk t).view.emb y 0 = (⟨512 * t.val + (y 0).val, by have := tN t; omega⟩ : Fin 16384) := by
    refine Fin.ext ?_
    blk_simp [idx t]
    have := (idx t).2.2.2.2.2.2.2.1
    simp [this]; omega
  have e1 : ((cfg0.win 14).blk t).view.emb y 1 = (⟨(y 1).val, h1⟩ : Fin 512) := by
    refine Fin.ext ?_
    blk_simp [idx t]
  rw [show first m c (((cfg0.win 14).blk t).view.emb y 0) (((cfg0.win 14).blk t).view.emb y 1) = first m c ⟨512 * t.val + (y 0).val, by have := tN t; omega⟩ ⟨(y 1).val, h1⟩ from
    congrArg₂ (first m c) e0 e1]
  blk_simp
  rw [after0_14]
  have hy : y = ix2 (⟨(y 0).val, h0⟩ : Fin 512) ⟨(y 1).val, h1⟩ := by ext a; fin_cases a <;> rfl
  refine (congrArg (outsAt0 m c t).2.2.2.2.1 hy).trans ?_
  rw [bonus_out, bonus_eq _ _ _ _ _ _ _ (lows m c) (low_read m c t) (seg_read m c t)]
  unfold first
  simp only [p_read, off_read, scale_read, weight_read]

theorem second_array : (dats m 0 c).arrAt 15 cfg0.N = fun i => second m c (i 0) (i 1) := by
  refine (dats m 0 c).arrAt_eq_of_covers 15 _ (by decide +kernel) fun t hf y => ?_
  have h0 : (y 0).val < 512 := (y 0).isLt
  have h1 : (y 1).val < 512 := (y 1).isLt
  have e0 : ((cfg0.win 15).blk t).view.emb y 0 = (⟨512 * t.val + (y 0).val, by have := tN t; omega⟩ : Fin 16384) := by
    refine Fin.ext ?_
    blk_simp [idx t]
    have := (idx t).2.2.2.2.2.2.2.2
    simp [this]; omega
  have e1 : ((cfg0.win 15).blk t).view.emb y 1 = (⟨(y 1).val, h1⟩ : Fin 512) := by
    refine Fin.ext ?_
    blk_simp [idx t]
  rw [show second m c (((cfg0.win 15).blk t).view.emb y 0) (((cfg0.win 15).blk t).view.emb y 1) = second m c ⟨512 * t.val + (y 0).val, by have := tN t; omega⟩ ⟨(y 1).val, h1⟩ from
    congrArg₂ (second m c) e0 e1]
  blk_simp
  rw [after0_15]
  have hy : y = ix2 (⟨(y 0).val, h0⟩ : Fin 512) ⟨(y 1).val, h1⟩ := by ext a; fin_cases a <;> rfl
  refine (congrArg (outsAt0 m c t).2.2.2.2.2 hy).trans ?_
  rw [gate_out, gate_apply]
  unfold second
  simp only [p_read, gate_read]

end Cert.MixIdeal.Mix

end
-- ==== Proof.MixRef.lean ====
/- What the reference of the mixer's bonus and gate computes. -/
module

public import proofs.«01_k».proof.Defs
public import proofs.«01_k».proof.Proof.Gen.MixRefIdeal.Run
public import proofs.«01_k».proof.Proof.Gen.MixRefIdeal.Read
public import proofs.«01_k».proof.Proof.MixMath
public import Idealize.ShloMosaic.Lib.Pointwise
public import Idealize.ShloMosaic.Lib.KernelVsHost

@[expose] public section

set_option maxRecDepth 16384

noncomputable section

namespace Cert.MixRefIdeal.Mix

open Cert.MixRefIdeal Cert.MixRefIdeal.Gen Cert.MixRefIdeal.Read Cert.MixMath Idealize.ShloMosaic Idealize.ShloMosaic.TcCoe Idealize.SL.Sem

variable (x0 : (⟨S16384x1792, .f32⟩ : BufTy).Contents (Elt Ideal)) (x3 : (⟨S512, .f32⟩ : BufTy).Contents (Elt Ideal)) (x4 : (⟨S64x512, .f32⟩ : BufTy).Contents (Elt Ideal))
  (x5 : (⟨S128x512, .f32⟩ : BufTy).Contents (Elt Ideal)) (x7 : (⟨S512, .f32⟩ : BufTy).Contents (Elt Ideal)) (x8 : (⟨S8x64, .f32⟩ : BufTy).Contents (Elt Ideal))
  (n : Fin 16384) (b : Fin 2) (s : Fin 8192)

/-- The row of place `s` of sequence `b`. -/
def row (b : Fin 2) (s : Fin 8192) (k : Fin 1792) : EReal := x0 (ix2 ⟨8192 * b.val + s.val, by omega⟩ k)

theorem split_apply (j : Fin 1792) : val_main_v0 (F := Ideal) x0 (ix3 b s j) = row x0 b s j := by
  rw [val_main_v0_apply]
  refine congrArg x0 (funext fun a => ?_)
  match a with
  | ⟨0, _⟩ => exact Fin.ext (by show ((b.val * 8192 + s.val) * 1792 + j.val) / 1792 = 8192 * b.val + s.val; omega)
  | ⟨1, _⟩ => exact Fin.ext (by show ((b.val * 8192 + s.val) * 1792 + j.val) % 1792 = j.val; omega)

/-- The learning rate. -/
theorem rate_apply (j : Fin 512) : val_main_v16 (F := Ideal) x0 x3 x4 (ix3 b s j) = rate (row x0 b s) (fun k => x3 (ix1 k)) (fun i k => x4 (ix2 i k)) j := by
  pointwise [val_main_v16, val_main_v15, val_main_v14, val_main_v13, val_main_v12, val_main_v11, val_main_v10, val_main_v9, val_main_v8, val_main_v7, val_main_v5, val_main_cst, val_main_cst_0]
  simp only [split_apply, one_word]
  rfl

/-- The key. -/
theorem key_apply (j : Fin 512) : val_main_v31 (F := Ideal) x0 x3 x4 x7 (ix3 b s j)
    = key (row x0 b s) (fun k => x3 (ix1 k)) (fun i k => x4 (ix2 i k)) (fun k => x7 (ix1 k)) j := by
  pointwise [val_main_v31, val_main_v30, val_main_v29, val_main_v28, val_main_v27, val_main_v26, val_main_v25, val_main_v24, val_main_v2, val_main_cst_3, val_main_cst_4]
  simp only [split_apply, rate_apply, one_word]
  rfl

/-- The gate. -/
theorem gate_apply (j : Fin 512) : val_main_v23 (F := Ideal) x0 x5 (ix3 b s j) = gate (row x0 b s) (fun i k => x5 (ix2 i k)) j := by
  pointwise [val_main_v23, val_main_v22, val_main_v21, val_main_v20, val_main_v19, val_main_v18, val_main_v17, val_main_v6, val_main_cst_1, val_main_cst_2]
  simp only [split_apply, one_word]
  rfl

/-- A row's place among the sequences. -/
theorem row_at (k : Fin 1792) : row x0 ⟨n.val / 8192, by omega⟩ ⟨n.val % 8192, by omega⟩ k = x0 (ix2 n k) := by
  have e : (⟨8192 * (n.val / 8192) + n.val % 8192, by omega⟩ : Fin 16384) = n := Fin.ext (by simp; omega)
  simp only [row, e]

section Heads
variable (h : Fin 8) (d : Fin 64)

theorem head32 : idx_main_v32 (ix4 b s h d) = ix3 b s ⟨64 * h.val + d.val, by omega⟩ := by
  refine funext fun a => ?_
  match a with
  | ⟨0, _⟩ => exact Fin.ext (by show (((b.val * 8192 + s.val) * 8 + h.val) * 64 + d.val) / 4194304 = b.val; omega)
  | ⟨1, _⟩ => exact Fin.ext (by show (((b.val * 8192 + s.val) * 8 + h.val) * 64 + d.val) / 512 % 8192 = s.val; omega)
  | ⟨2, _⟩ => exact Fin.ext (by show (((b.val * 8192 + s.val) * 8 + h.val) * 64 + d.val) % 512 = 64 * h.val + d.val; omega)

/-- A channel's share of its head's bonus. -/
theorem share_apply : val_main_v38 (F := Ideal) x0 x3 x4 x7 x8 (ix4 b s h d)
    = share (row x0 b s) (fun k => x3 (ix1 k)) (fun i k => x4 (ix2 i k)) (fun k => x7 (ix1 k)) (fun k => x8 (ix2 ⟨k.val / 64, by omega⟩ ⟨k.val % 64, by omega⟩)) ⟨64 * h.val + d.val, by omega⟩ := by
  rw [val_main_v38_apply, val_main_v35_apply, val_main_v32_apply, val_main_v33_apply, head32, show idx_main_v33 (ix4 b s h d) = ix3 b s ⟨64 * h.val + d.val, by omega⟩ from head32 b s h d,
    key_apply]
  have e1 : (⟨(64 * h.val + d.val) / 64, by omega⟩ : Fin 8) = h := Fin.ext (by simp only; omega)
  have e2 : (⟨(64 * h.val + d.val) % 64, by omega⟩ : Fin 64) = d := Fin.ext (by simp only; omega)
  pointwise [val_main_v1, val_main_v37, val_main_v36]
  simp only [split_apply, share, e1, e2]

/-- A head's bonus times the channel's value. -/
theorem head_apply : val_main_v42 (F := Ideal) x0 x3 x4 x7 x8 (ix4 b s h d)
    = bonus (row x0 b s) (fun k => x3 (ix1 k)) (fun i k => x4 (ix2 i k)) (fun k => x7 (ix1 k)) (fun k => x8 (ix2 ⟨k.val / 64, by omega⟩ ⟨k.val % 64, by omega⟩)) ⟨64 * h.val + d.val, by omega⟩ := by
  rw [val_main_v42_apply, val_main_v41_apply, val_main_v40_apply, val_main_v39_apply, val_main_v34_apply, show idx_main_v34 (ix4 b s h d) = ix3 b s ⟨64 * h.val + d.val, by omega⟩ from head32 b s h d]
  have e0 : val_main_cst_5 (F := Ideal) (Shape.Idx.first h_S_) = 0 := by rw [val_main_cst_5_apply]; exact Ideal.ofBits_zero_f32
  rw [e0, zero_add]
  have e (k : Fin 64) : idx_main_v39 (idx_main_v40 (idx_main_v41 (ix4 b s h d))) k = ix4 b s h k := funext fun a => by
    match a with | ⟨0, _⟩ => rfl | ⟨1, _⟩ => rfl | ⟨2, _⟩ => rfl | ⟨3, _⟩ => rfl
  have e1 : (64 * h.val + d.val) / 64 = h.val := by omega
  simp only [e, share_apply, bonus, e1]
  pointwise [val_main_v3]
  simp only [split_apply]
end Heads

/-- The first result, and the second. -/
theorem first_apply (j : Fin 512) : val_main_v44 (F := Ideal) x0 x3 x4 x7 x8 (ix2 n j)
    = bonus (fun k => x0 (ix2 n k)) (fun k => x3 (ix1 k)) (fun i k => x4 (ix2 i k)) (fun k => x7 (ix1 k)) (fun k => x8 (ix2 ⟨k.val / 64, by omega⟩ ⟨k.val % 64, by omega⟩)) j := by
  rw [val_main_v44_apply, val_main_v43_apply]
  have e : idx_main_v43 (ix2 n j) = ix4 ⟨n.val / 8192, by omega⟩ ⟨n.val % 8192, by omega⟩ ⟨j.val / 64, by omega⟩ ⟨j.val % 64, by omega⟩ := by
    refine funext fun a => ?_
    match a with
    | ⟨0, _⟩ => exact Fin.ext (by show (n.val * 512 + j.val) / 4194304 = n.val / 8192; omega)
    | ⟨1, _⟩ => exact Fin.ext (by show (n.val * 512 + j.val) / 512 % 8192 = n.val % 8192; omega)
    | ⟨2, _⟩ => exact Fin.ext (by show (n.val * 512 + j.val) / 64 % 8 = j.val / 64; omega)
    | ⟨3, _⟩ => exact Fin.ext (by show (n.val * 512 + j.val) % 64 = j.val % 64; omega)
  have ej : (⟨64 * (j.val / 64) + j.val % 64, by omega⟩ : Fin 512) = j := Fin.ext (by simp only; omega)
  rw [e, head_apply]
  simp only [ej, show row x0 ⟨n.val / 8192, by omega⟩ ⟨n.val % 8192, by omega⟩ = fun k => x0 (ix2 n k) from funext (row_at x0 n)]
  rfl

theorem second_apply (j : Fin 512) : val_main_v46 (F := Ideal) x0 x5 (ix2 n j) = gate (fun k => x0 (ix2 n k)) (fun i k => x5 (ix2 i k)) j := by
  rw [val_main_v46_apply, val_main_v45_apply]
  have e : idx_main_v45 (ix2 n j) = ix3 ⟨n.val / 8192, by omega⟩ ⟨n.val % 8192, by omega⟩ j := by
    refine funext fun a => ?_
    match a with
    | ⟨0, _⟩ => exact Fin.ext (by show (n.val * 512 + j.val) / 4194304 = n.val / 8192; omega)
    | ⟨1, _⟩ => exact Fin.ext (by show (n.val * 512 + j.val) / 512 % 8192 = n.val % 8192; omega)
    | ⟨2, _⟩ => exact Fin.ext (by show (n.val * 512 + j.val) % 512 = j.val; omega)
  rw [e, gate_apply, show row x0 ⟨n.val / 8192, by omega⟩ ⟨n.val % 8192, by omega⟩ = fun k => x0 (ix2 n k) from funext (row_at x0 n)]
  rfl

end Cert.MixRefIdeal.Mix

end
-- ==== Proof.MixEq.lean ====
/- The claim about the mixer's bonus and gate: the kernel ends with what its reference ends with. -/
module

public import proofs.«01_k».proof.Proof.MixArray
public import proofs.«01_k».proof.Proof.MixRef

@[expose] public section

noncomputable section

namespace Cert.MixEq

open Idealize.ShloMosaic Idealize.ShloMosaic.TcCoe Idealize.SL.Sem

/-- The claim, of both results. -/
theorem algebraic : Cert.algebraic_MixIdeal_MixRefIdeal := by
  intro m g m' g' _ hargs
  refine ⟨fun c i => Cert.MixIdeal.Mix.first m c (i 0) (i 1), fun c i => Cert.MixIdeal.Mix.second m c (i 0) (i 1), ?_, ?_⟩
  · refine (θ_run Cert.MixIdeal.defs _ _).mono (fun r h c => ?_) (Cert.MixIdeal.Value.run_blocks m g)
    obtain ⟨-, -, -, -, h4, h5, hr⟩ := h c
    exact ⟨h4.trans (Cert.MixIdeal.Mix.first_array m c), h5.trans (Cert.MixIdeal.Mix.second_array m c), hr⟩
  · refine (θ_run Cert.MixRefIdeal.defs _ _).mono (fun r h c => ⟨(h c).1.trans ?_, (h c).2.1.trans ?_, (h c).2.2⟩) (Cert.MixRefIdeal.Value.run m' g')
    all_goals obtain ⟨h0, h1, h2, h3, h4, h5, h6, h7, h8⟩ := hargs c
    · rw [Cert.MixRefIdeal.Read.val_main_v44_eq, h0, h3, h4, h7, h8]
      funext i
      have hi : i = ix2 (i 0) (i 1) := funext fun a => by match a with | ⟨0, _⟩ => rfl | ⟨1, _⟩ => rfl
      exact (congrArg _ hi).trans (Cert.MixRefIdeal.Mix.first_apply _ _ _ _ _ (i 0) (i 1))
    · rw [Cert.MixRefIdeal.Read.val_main_v46_eq, h0, h5]
      funext i
      have hi : i = ix2 (i 0) (i 1) := funext fun a => by match a with | ⟨0, _⟩ => rfl | ⟨1, _⟩ => rfl
      exact (congrArg _ hi).trans (Cert.MixRefIdeal.Mix.second_apply _ _ (i 0) (i 1))

end Cert.MixEq

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.InProj
public import proofs.«01_k».proof.Proof.Gen.InProjIdeal
public import proofs.«01_k».proof.Proof.Gen.InProjIdeal.Frame
public import proofs.«01_k».proof.Proof.Gen.InProjIdeal.Skeleton
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.AttnEq
public import proofs.«01_k».proof.Proof.FfnEq
public import proofs.«01_k».proof.Proof.OutEq
public import proofs.«01_k».proof.Proof.InProjEq
public import proofs.«01_k».proof.Proof.MixEq
public import Idealize.ShloMosaic.Adequacy
public import Idealize.ShloMosaic.Init

@[expose] public section

noncomputable section

namespace Cert.Proof

open Idealize.ShloMosaic Idealize.SL.Sem

/-- The reference of the attention ends, with its arguments as they were. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constants of the attention are what their words round. -/
theorem preserves : Cert.preserves_Kernel_KernelIdeal :=
  ⟨IdealRules.named_const.statement Cert.KernelIdeal.κ "log2e" .f32 0x3FB8AA3B#32 _ rfl,
    IdealRules.named_const.statement Cert.KernelIdeal.κ "qscale" .f32 0x3E38AA3B#32 _ rfl⟩

/-- The reference of the feed-forward block ends, with its arguments as they were. -/
theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The last kernel's reference ends, with its arguments as they were. -/
theorem frame_out_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The input projection's one body is the same program under both names. -/
theorem in_bodies : @Cert.InProj.defs₀ Bits _ _ = @Cert.InProjIdeal.defs₀ Bits _ _ := by
  unfold Cert.InProj.defs₀ Cert.InProjIdeal.defs₀
  refine congrArg Defs.onTc (funext fun l => funext fun a => ?_)
  obtain rfl : l = (0 : Fin 1) := Subsingleton.elim (α := Fin 1) _ _
  rfl

/-- So is its launch. -/
theorem in_defs : @Cert.InProj.defs Bits _ _ = @Cert.InProjIdeal.defs Bits _ _ :=
  congrArg (Pipeline.defs Cert.InProjIdeal.pcfgs) in_bodies

/-- The input projection ends, with its arguments as they were, over bits: one run serves both readings. -/
theorem frame_in : Cert.quiescent_InProj := fun m ρ _ => by
  rw [in_defs]
  exact Cert.InProjIdeal.Carry.frame (F := Bits) m ρ

/-- The input projection's reference ends, with its arguments as they were. -/
theorem frame_in_ref : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The reference of the mixer's bonus and gate ends, with its arguments as they were. -/
theorem frame_mix_ref : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- Every claim. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Out.Gen.facts, Cert.OutIdeal.Gen.facts, Cert.OutRefIdeal.Gen.facts,
  Cert.InProj.Gen.facts, Cert.InProjIdeal.Gen.facts, Cert.InProjRefIdeal.Gen.facts,
  Cert.Mix.Gen.facts, Cert.MixIdeal.Gen.facts, Cert.MixRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Ffn.Gen.frame m ρ, fun m ρ _ => Cert.FfnIdeal.Gen.frame m ρ, frame_ffn_ref,
  fun m ρ _ => Cert.Out.Gen.frame m ρ, fun m ρ _ => Cert.OutIdeal.Gen.frame m ρ, frame_out_ref,
  frame_in, fun m ρ _ => Cert.InProjIdeal.Carry.frame m ρ, frame_in_ref,
  fun m ρ _ => Cert.Mix.Gen.frame m ρ, fun m ρ _ => Cert.MixIdeal.Gen.frame m ρ, frame_mix_ref,
  preserves, Cert.AttnEq.algebraic, trivial, Cert.FfnEq.algebraic, trivial, Cert.OutEq.algebraic, trivial, Cert.InProjEq.algebraic, trivial, Cert.MixEq.algebraic⟩

end Cert.Proof

end
